-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_sums [hPre_finite_sums : Cert.Pre_finite_sums.Facts] (m : (ℓ : Loc Cert.MergeIdeal.nD Cert.MergeIdeal.τ Cert.MergeIdeal.sig) → Buf (Elt Ideal) ℓ) : Prop :=
  ∀ c : Dev Cert.MergeIdeal.nD,
    (Cert.Pre_finite_sums.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17))).1 = (fun _ => 1#1)
    ∧ (Cert.Pre_finite_sums.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17))).2 = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_sums [hPre_finite_sums : Cert.Pre_finite_sums.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_sums.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17))).1 = (fun _ => 1#1)
    ∧ (Cert.Pre_finite_sums.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5)
      ∧ r.2.mem ((c.tc : Thread Cert.FeedForward.nD Cert.FeedForward.τ).loc Cert.FeedForward.main_arg6) = m ((c.tc : Thread Cert.FeedForward.nD Cert.FeedForward.τ).loc Cert.FeedForward.main_arg6))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
      ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5)
      ∧ r.2.mem ((c.tc : Thread Cert.FeedForwardReferenceIdeal.nD Cert.FeedForwardReferenceIdeal.τ).loc Cert.FeedForwardReferenceIdeal.main_arg6) = m ((c.tc : Thread Cert.FeedForwardReferenceIdeal.nD Cert.FeedForwardReferenceIdeal.τ).loc Cert.FeedForwardReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17))
      ∧ r.2.sem = fun _ => 0)

def quiescent_MergeIdeal_pre_finite_sums [hMergeIdeal : Cert.MergeIdeal.Facts] [hPre_finite_sums : Cert.Pre_finite_sums.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_sums m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17))
      ∧ r.2.sem = fun _ => 0)

def quiescent_MergeReferenceIdeal_pre_finite_sums [hMergeReferenceIdeal : Cert.MergeReferenceIdeal.Facts] [hPre_finite_sums : Cert.Pre_finite_sums.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_sums m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)
      ∧ m' ((c.tc : Thread Cert.FeedForwardReferenceIdeal.nD Cert.FeedForwardReferenceIdeal.τ).loc Cert.FeedForwardReferenceIdeal.main_arg6) = m ((c.tc : Thread Cert.FeedForwardIdeal.nD Cert.FeedForwardIdeal.τ).loc Cert.FeedForwardIdeal.main_arg6)) →
    ∃ (v0 : (c : Dev Cert.FeedForwardIdeal.nD) → Buf (Elt Ideal) ((c.tc : Thread Cert.FeedForwardIdeal.nD Cert.FeedForwardIdeal.τ).loc Cert.FeedForwardIdeal.main_v4)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v4) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
          ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v18) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5)
          ∧ r.2.mem ((c.tc : Thread Cert.FeedForwardReferenceIdeal.nD Cert.FeedForwardReferenceIdeal.τ).loc Cert.FeedForwardReferenceIdeal.main_arg6) = m' ((c.tc : Thread Cert.FeedForwardReferenceIdeal.nD Cert.FeedForwardReferenceIdeal.τ).loc Cert.FeedForwardReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v11)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v11) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v43) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4))

def preserves_Merge_MergeIdeal : Prop :=
  True

def algebraic_MergeIdeal_MergeReferenceIdeal_pre_finite_sums [hMergeIdeal : Cert.MergeIdeal.Facts] [hMergeReferenceIdeal : Cert.MergeReferenceIdeal.Facts] [hPre_finite_sums : Cert.Pre_finite_sums.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_sums m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)) →
    ∃ (v0 : (c : Dev Cert.MergeIdeal.nD) → Buf (Elt Ideal) ((c.tc : Thread Cert.MergeIdeal.nD Cert.MergeIdeal.τ).loc Cert.MergeIdeal.main_v21_0)) (v1 : (c : Dev Cert.MergeIdeal.nD) → Buf (Elt Ideal) ((c.tc : Thread Cert.MergeIdeal.nD Cert.MergeIdeal.τ).loc Cert.MergeIdeal.main_v21_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21_0) = v0 c
          ∧ r.2.mem ((c.tc : Thread Cert.MergeIdeal.nD Cert.MergeIdeal.τ).loc Cert.MergeIdeal.main_v21_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v83) = v0 c
          ∧ r.2.mem ((c.tc : Thread Cert.MergeReferenceIdeal.nD Cert.MergeReferenceIdeal.τ).loc Cert.MergeReferenceIdeal.main_v118) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hProjection : Cert.Projection.Facts) (hProjectionIdeal : Cert.ProjectionIdeal.Facts) (hProjectionReferenceIdeal : Cert.ProjectionReferenceIdeal.Facts) (hMerge : Cert.Merge.Facts) (hMergeIdeal : Cert.MergeIdeal.Facts) (hMergeReferenceIdeal : Cert.MergeReferenceIdeal.Facts) (hPre_finite_qk : Cert.Pre_finite_qk.Facts) (hPre_finite_sums : Cert.Pre_finite_sums.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Merge (hMerge := hMerge)
    ∧ quiescent_MergeIdeal (hMergeIdeal := hMergeIdeal)
    ∧ quiescent_MergeIdeal_pre_finite_sums (hMergeIdeal := hMergeIdeal) (hPre_finite_sums := hPre_finite_sums)
    ∧ quiescent_MergeReferenceIdeal (hMergeReferenceIdeal := hMergeReferenceIdeal)
    ∧ quiescent_MergeReferenceIdeal_pre_finite_sums (hMergeReferenceIdeal := hMergeReferenceIdeal) (hPre_finite_sums := hPre_finite_sums)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Merge_MergeIdeal
    ∧ algebraic_MergeIdeal_MergeReferenceIdeal_pre_finite_sums (hMergeIdeal := hMergeIdeal) (hMergeReferenceIdeal := hMergeReferenceIdeal) (hPre_finite_sums := hPre_finite_sums)
-- ==== Pre_finite_qk.lean ====
abbrev S2x8192x8x64 : Shape := ⟨4, ![2, 8192, 8, 64]⟩
abbrev S2x8448x2x64 : Shape := ⟨4, ![2, 8448, 2, 64]⟩
abbrev S_ : Shape := ⟨0, ![]⟩

class Facts : Prop where
  bcast_S_S2x8192x8x64 : S_.BroadcastsInDim S2x8192x8x64 (![] : Fin 0 → Fin S2x8192x8x64.rank)
  bcast_S_S2x8448x2x64 : S_.BroadcastsInDim S2x8448x2x64 (![] : Fin 0 → Fin S2x8448x2x64.rank)

variable [Facts]

def fn {F : FTy → Type} [FloatOps F] (main_arg0 : FVec F S2x8192x8x64 .f32) (main_arg1 : FVec F S2x8448x2x64 .f32) (main_arg2 : FVec F S2x8448x2x64 .f32) : IVec S2x8192x8x64 1 × IVec S2x8448x2x64 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8448x2x64 .f32 := Host.absf main_arg1
  let main_cst_0 : FVec F S_ .f32 := constant S_ .f32 0x7F800000#32
  let main_v4 : FVec F S2x8448x2x64 .f32 := broadcastInDim S2x8448x2x64 ![] bcast_S_S2x8448x2x64 main_cst_0
  let main_v5 : IVec S2x8448x2x64 1 := cmpf .olt main_v3 main_v4
  (main_v2, main_v5)
-- ==== Pre_finite_sums.lean ====
abbrev S2x8448x1024 : Shape := ⟨3, ![2, 8448, 1024]⟩
abbrev S6x1024 : Shape := ⟨2, ![6, 1024]⟩
abbrev S2x6x1024 : Shape := ⟨3, ![2, 6, 1024]⟩
abbrev S2x8192x256 : Shape := ⟨3, ![2, 8192, 256]⟩
abbrev S2x256x256 : Shape := ⟨3, ![2, 256, 256]⟩
abbrev S2x8448x256 : Shape := ⟨3, ![2, 8448, 256]⟩
abbrev S2x8448x6656 : Shape := ⟨3, ![2, 8448, 6656]⟩
abbrev S2x8192x512 : Shape := ⟨3, ![2, 8192, 512]⟩
abbrev S2x256x512 : Shape := ⟨3, ![2, 256, 512]⟩
abbrev S256x1024 : Shape := ⟨2, ![256, 1024]⟩
abbrev S256 : Shape := ⟨1, ![256]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S2x8448x256 : S_.BroadcastsInDim S2x8448x256 (![] : Fin 0 → Fin S2x8448x256.rank)

variable [Facts]

def fn {F : FTy → Type} [FloatOps F] (main_arg0 : FVec F S2x8448x1024 .f32) (main_arg1 : FVec F S6x1024 .f32) (main_arg2 : FVec F S2x6x1024 .f32) (main_arg3 : FVec F S2x8192x256 .f32) (main_arg4 : FVec F S2x256x256 .f32) (main_arg5 : FVec F S2x8448x256 .f32) (main_arg6 : FVec F S2x8448x256 .f32) (main_arg7 : FVec F S2x8448x6656 .f32) (main_arg8 : FVec F S2x8192x512 .f32) (main_arg9 : FVec F S2x256x512 .f32) (main_arg10 : FVec F S2x8448x256 .f32) (main_arg11 : FVec F S256x1024 .f32) (main_arg12 : FVec F S256 .f32) (main_arg13 : FVec F S256x1024 .f32) (main_arg14 : FVec F S512x1024 .f32) (main_arg15 : FVec F S256x1024 .f32) (main_arg16 : FVec F S1024x1024 .f32) (main_arg17 : FVec F S1024 .f32) : IVec S2x8448x256 1 × IVec S2x8448x256 1 :=
  let main_v0 : FVec F S2x8448x256 .f32 := Host.absf main_arg5
  let main_cst : FVec F S_ .f32 := constant S_ .f32 0x7F800000#32
  let main_v1 : FVec F S2x8448x256 .f32 := broadcastInDim S2x8448x256 ![] bcast_S_S2x8448x256 main_cst
  let main_v2 : IVec S2x8448x256 1 := cmpf .olt main_v0 main_v1
  let main_v3 : FVec F S2x8448x256 .f32 := Host.absf main_arg6
  let main_cst_0 : FVec F S_ .f32 := constant S_ .f32 0x7F800000#32
  let main_v4 : FVec F S2x8448x256 .f32 := broadcastInDim S2x8448x256 ![] bcast_S_S2x8448x256 main_cst_0
  let main_v5 : IVec S2x8448x256 1 := cmpf .olt main_v3 main_v4
  (main_v2, main_v5)
-- ==== Kernel.lean ====
abbrev S2x8192x8x64 : Shape := ⟨4, ![2, 8192, 8, 64]⟩
abbrev S2x8448x2x64 : Shape := ⟨4, ![2, 8448, 2, 64]⟩
abbrev S_ : Shape := ⟨0, ![]⟩
abbrev S2x32x256x2x4x64 : Shape := ⟨6, ![2, 32, 256, 2, 4, 64]⟩
abbrev S2x2x64x32x4x256 : Shape := ⟨6, ![2, 2, 64, 32, 4, 256]⟩
abbrev S2x2x64x32768 : Shape := ⟨4, ![2, 2, 64, 32768]⟩
abbrev S2x2x8448x64 : Shape := ⟨4, ![2, 2, 8448, 64]⟩
abbrev S2x2x64x8448 : Shape := ⟨4, ![2, 2, 64, 8448]⟩
abbrev S2x2x1x8448 : Shape := ⟨4, ![2, 2, 1, 8448]⟩
abbrev S2x2x15x8448 : Shape := ⟨4, ![2, 2, 15, 8448]⟩
abbrev S2x2x80x8448 : Shape := ⟨4, ![2, 2, 80, 8448]⟩
abbrev S2x8192x512 : Shape := ⟨3, ![2, 8192, 512]⟩
abbrev S1x1x64x2048 : Shape := ⟨4, ![1, 1, 64, 2048]⟩
abbrev S1x1x2816x64 : Shape := ⟨4, ![1, 1, 2816, 64]⟩
abbrev S1x1x80x2816 : Shape := ⟨4, ![1, 1, 80, 2816]⟩
abbrev S1x512x256 : Shape := ⟨3, ![1, 512, 256]⟩
abbrev S1x2048 : Shape := ⟨2, ![1, 2048]⟩
abbrev S80x2048 : Shape := ⟨2, ![80, 2048]⟩
abbrev S2816x2048 : Shape := ⟨2, ![2816, 2048]⟩
abbrev S64x2048 : Shape := ⟨2, ![64, 2048]⟩
abbrev S2816x64 : Shape := ⟨2, ![2816, 64]⟩
abbrev S2048 : Shape := ⟨1, ![2048]⟩
abbrev S80x2816 : Shape := ⟨2, ![80, 2816]⟩
abbrev S64x256 : Shape := ⟨2, ![64, 256]⟩
abbrev S2816x256 : Shape := ⟨2, ![2816, 256]⟩
abbrev S256 : Shape := ⟨1, ![256]⟩
abbrev S1x256 : Shape := ⟨2, ![1, 256]⟩
abbrev S80x256 : Shape := ⟨2, ![80, 256]⟩
abbrev S256x256 : Shape := ⟨2, ![256, 256]⟩
abbrev S1x256x256 : Shape := ⟨3, ![1, 256, 256]⟩

abbrev nBuf : Space → Nat
  | .hbm => 23
  | .vmem => 18
  | .smem => 0
  | _ => 0

abbrev bufTy : (tb : Table) → Fin (tcTables nBuf tb) → BufTy
  | .hbm, ⟨0, _⟩ => ⟨S2x8192x8x64, .f32⟩
  | .hbm, ⟨1, _⟩ => ⟨S2x8448x2x64, .f32⟩
  | .hbm, ⟨2, _⟩ => ⟨S2x8448x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8192x8x64, .f32⟩
  | .hbm, ⟨8, _⟩ => ⟨S2x8192x8x64, .f32⟩
  | .hbm, ⟨9, _⟩ => ⟨S2x32x256x2x4x64, .f32⟩
  | .hbm, ⟨10, _⟩ => ⟨S2x2x64x32x4x256, .f32⟩
  | .hbm, ⟨11, _⟩ => ⟨S2x2x64x32768, .f32⟩
  | .hbm, ⟨12, _⟩ => ⟨S2x2x64x32768, .bf16⟩
  | .hbm, ⟨13, _⟩ => ⟨S2x2x8448x64, .f32⟩
  | .hbm, ⟨14, _⟩ => ⟨S2x2x8448x64, .bf16⟩
  | .hbm, ⟨15, _⟩ => ⟨S2x2x64x8448, .f32⟩
  | .hbm, ⟨16, _⟩ => ⟨S_, .f32⟩
  | .hbm, ⟨17, _⟩ => ⟨S2x2x1x8448, .f32⟩
  | .hbm, ⟨18, _⟩ => ⟨S_, .f32⟩
  | .hbm, ⟨19, _⟩ => ⟨S2x2x15x8448, .f32⟩
  | .hbm, ⟨20, _⟩ => ⟨S2x2x80x8448, .f32⟩
  | .hbm, ⟨21, _⟩ => ⟨S2x2x80x8448, .bf16⟩
  | .hbm, ⟨22, _⟩ => ⟨S2x8192x512, .bf16⟩
  | .local _ .vmem, ⟨0, _⟩ => ⟨S1x1x64x2048, .bf16⟩
  | .local _ .vmem, ⟨1, _⟩ => ⟨S1x1x64x2048, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x2816x64, .bf16⟩
  | .local _ .vmem, ⟨5, _⟩ => ⟨S1x1x2816x64, .bf16⟩
  | .local _ .vmem, ⟨6, _⟩ => ⟨S1x1x2816x64, .bf16⟩
  | .local _ .vmem, ⟨7, _⟩ => ⟨S1x1x2816x64, .bf16⟩
  | .local _ .vmem, ⟨8, _⟩ => ⟨S1x1x80x2816, .bf16⟩
  | .local _ .vmem, ⟨9, _⟩ => ⟨S1x1x80x2816, .bf16⟩
  | .local _ .vmem, ⟨10, _⟩ => ⟨S1x512x256, .bf16⟩
  | .local _ .vmem, ⟨11, _⟩ => ⟨S1x512x256, .bf16⟩
  | .local _ .vmem, ⟨12, _⟩ => ⟨S1x2048, .f32⟩
  | .local _ .vmem, ⟨13, _⟩ => ⟨S80x2048, .f32⟩
  | .local _ .vmem, ⟨14, _⟩ => ⟨S2816x2048, .f32⟩
  | .local _ .vmem, ⟨15, _⟩ => ⟨S2816x2048, .f32⟩
  | .local _ .vmem, ⟨16, _⟩ => ⟨S1x2048, .f32⟩
  | .local _ .vmem, ⟨17, _⟩ => ⟨S1x2048, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 2, 16, 3], ![false, false, false, false]⟩

def k0_cond5 (i : grid0.Coords) : BitVec 1 :=
  let arg3 : BitVec 32 := BitVec.ofNat 32 (i 3).val
  let c2_i32 : BitVec 32 := 2#32
  let v2 : BitVec 1 := Scalar.cmpi .eq arg3 c2_i32
  let v35 : BitVec 32 := Scalar.extui v2
  let c0_i32_18 : BitVec 32 := 0#32
  let v36 : BitVec 1 := Scalar.cmpi .ne v35 c0_i32_18
  v36

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c0_i32_0 : BitVec 32 := 0#32
  let c0_i32_1 : BitVec 32 := 0#32
  ![arg0.toNat, arg1.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let v2 : BitVec 32 := Scalar.addi c0_i32 v1
  let c0_i32_0 : BitVec 32 := 0#32
  let c0_i32_1 : BitVec 32 := 0#32
  ![arg0.toNat, arg1.toNat, c0_i32_0.toNat, v2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .eq arg3 c2_i32
  let c1_i32 : BitVec 32 := 1#32
  let v1 : BitVec 32 := Scalar.addi arg3 c1_i32
  let c0_i32 : BitVec 32 := 0#32
  let v2 : BitVec 32 := Scalar.select v0 c0_i32 v1
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x2816x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x2816x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x1x80x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S2x8192x8x64 : Shape := ⟨4, ![2, 8192, 8, 64]⟩
abbrev S2x8448x2x64 : Shape := ⟨4, ![2, 8448, 2, 64]⟩
abbrev S2x8192x2x4x64 : Shape := ⟨5, ![2, 8192, 2, 4, 64]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x512 : Shape := ⟨3, ![2, 8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8448x2x64, .f32⟩
  | .hbm, ⟨2, _⟩ => ⟨S2x8448x2x64, .f32⟩
  | .hbm, ⟨3, _⟩ => ⟨S2x8192x2x4x64, .f32⟩
  | .hbm, ⟨4, _⟩ => ⟨S2x2x8448x8192x4, .f32⟩
  | .hbm, ⟨5, _⟩ => ⟨S2x2x4x8192x8448, .f32⟩
  | .hbm, ⟨6, _⟩ => ⟨S_, .f32⟩
  | .hbm, ⟨7, _⟩ => ⟨S2x2x4x8192x8448, .f32⟩
  | .hbm, ⟨8, _⟩ => ⟨S2x2x4x8192x8448, .f32⟩
  | .hbm, ⟨9, _⟩ => ⟨S_, .f32⟩
  | .hbm, ⟨10, _⟩ => ⟨S2x2x4x8192, .f32⟩
  | .hbm, ⟨11, _⟩ => ⟨S_, .f32⟩
  | .hbm, ⟨12, _⟩ => ⟨S2x2x4x8192, .f32⟩
  | .hbm, ⟨13, _⟩ => ⟨S2x2x4x8192, .f32⟩
  | .hbm, ⟨14, _⟩ => ⟨S2x2x4x8192x1, .f32⟩
  | .hbm, ⟨15, _⟩ => ⟨S2x2x4x8192x8448, .f32⟩
  | .hbm, ⟨16, _⟩ => ⟨S2x2x4x8192x8448, .f32⟩
  | .hbm, ⟨17, _⟩ => ⟨S2x2x4x8192x8448, .f32⟩
  | .hbm, ⟨18, _⟩ => ⟨S_, .f32⟩
  | .hbm, ⟨19, _⟩ => ⟨S2x2x4x8192, .f32⟩
  | .hbm, ⟨20, _⟩ => ⟨S2x2x4x8192x1, .f32⟩
  | .hbm, ⟨21, _⟩ => ⟨S2x2x4x8192x8448, .f32⟩
  | .hbm, ⟨22, _⟩ => ⟨S2x2x4x8192x8448, .f32⟩
  | .hbm, ⟨23, _⟩ => ⟨S2x2x64x4x8192, .f32⟩
  | .hbm, ⟨24, _⟩ => ⟨S2x8192x2x4x64, .f32⟩
  | .hbm, ⟨25, _⟩ => ⟨S2x8192x512, .f32⟩
  | .hbm, ⟨26, _⟩ => ⟨S2x8192x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FeedForward.lean ====
abbrev S2x8448x1024 : Shape := ⟨3, ![2, 8448, 1024]⟩
abbrev S6x1024 : Shape := ⟨2, ![6, 1024]⟩
abbrev S2x6x1024 : Shape := ⟨3, ![2, 6, 1024]⟩
abbrev S1024x2816 : Shape := ⟨2, ![1024, 2816]⟩
abbrev S2816x1024 : Shape := ⟨2, ![2816, 1024]⟩
abbrev S1x384x1024 : Shape := ⟨3, ![1, 384, 1024]⟩
abbrev S1x6x1024 : Shape := ⟨3, ![1, 6, 1024]⟩
abbrev S1x1024 : Shape := ⟨2, ![1, 1024]⟩
abbrev S1x1x1024 : Shape := ⟨3, ![1, 1, 1024]⟩
abbrev S384x1 : Shape := ⟨2, ![384, 1]⟩
abbrev S384x1024 : Shape := ⟨2, ![384, 1024]⟩
abbrev S384x2816 : Shape := ⟨2, ![384, 2816]⟩

abbrev nBuf : Space → Nat
  | .hbm => 12
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S6x1024, .f32⟩
  | .hbm, ⟨3, _⟩ => ⟨S2x6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x8448x1024, .bf16⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S2x8448x1024, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .f32⟩
  | .local _ .vmem, ⟨3, _⟩ => ⟨S1x384x1024, .f32⟩
  | .local _ .vmem, ⟨4, _⟩ => ⟨S6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x384x1024, .f32⟩
  | .local _ .vmem, ⟨11, _⟩ => ⟨S1x384x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FeedForwardReferenceIdeal.lean ====
abbrev S2x8448x1024 : Shape := ⟨3, ![2, 8448, 1024]⟩
abbrev S6x1024 : Shape := ⟨2, ![6, 1024]⟩
abbrev S2x6x1024 : Shape := ⟨3, ![2, 6, 1024]⟩
abbrev S1024x2816 : Shape := ⟨2, ![1024, 2816]⟩
abbrev S2816x1024 : Shape := ⟨2, ![2816, 1024]⟩
abbrev S2x8448x2816 : Shape := ⟨3, ![2, 8448, 2816]⟩
abbrev S_ : Shape := ⟨0, ![]⟩
abbrev S2x256x1024 : Shape := ⟨3, ![2, 256, 1024]⟩
abbrev S1x1024 : Shape := ⟨2, ![1, 1024]⟩
abbrev S1x1x1024 : Shape := ⟨3, ![1, 1, 1024]⟩
abbrev S2x8192x1024 : Shape := ⟨3, ![2, 8192, 1024]⟩
abbrev S2x1x1024 : Shape := ⟨3, ![2, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S6x1024, .f32⟩
  | .hbm, ⟨3, _⟩ => ⟨S2x6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x8448x2816, .f32⟩
  | .hbm, ⟨8, _⟩ => ⟨S2x8448x2816, .f32⟩
  | .hbm, ⟨9, _⟩ => ⟨S2x8448x2816, .f32⟩
  | .hbm, ⟨10, _⟩ => ⟨S_, .f32⟩
  | .hbm, ⟨11, _⟩ => ⟨S2x8448x2816, .f32⟩
  | .hbm, ⟨12, _⟩ => ⟨S2x8448x2816, .f32⟩
  | .hbm, ⟨13, _⟩ => ⟨S_, .f32⟩
  | .hbm, ⟨14, _⟩ => ⟨S2x8448x2816, .f32⟩
  | .hbm, ⟨15, _⟩ => ⟨S2x8448x2816, .f32⟩
  | .hbm, ⟨16, _⟩ => ⟨S2x8448x2816, .f32⟩
  | .hbm, ⟨17, _⟩ => ⟨S2x8448x2816, .f32⟩
  | .hbm, ⟨18, _⟩ => ⟨S2x8448x2816, .f32⟩
  | .hbm, ⟨19, _⟩ => ⟨S2x8448x1024, .f32⟩
  | .hbm, ⟨20, _⟩ => ⟨S2x256x1024, .f32⟩
  | .hbm, ⟨21, _⟩ => ⟨S1x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S2x8192x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Projection.lean ====
abbrev S2x8448x1024 : Shape := ⟨3, ![2, 8448, 1024]⟩
abbrev S6x1024 : Shape := ⟨2, ![6, 1024]⟩
abbrev S2x6x1024 : Shape := ⟨3, ![2, 6, 1024]⟩
abbrev S1024 : Shape := ⟨1, ![1024]⟩
abbrev S1024x6656 : Shape := ⟨2, ![1024, 6656]⟩
abbrev S1x1024 : Shape := ⟨2, ![1, 1024]⟩
abbrev S1x1024x6656 : Shape := ⟨3, ![1, 1024, 6656]⟩
abbrev S1x1024x4096 : Shape := ⟨3, ![1, 1024, 4096]⟩
abbrev S_ : Shape := ⟨0, ![]⟩
abbrev S1x1024x512 : Shape := ⟨3, ![1, 1024, 512]⟩
abbrev S1x1024x1280 : Shape := ⟨3, ![1, 1024, 1280]⟩
abbrev S1x1024x256 : Shape := ⟨3, ![1, 1024, 256]⟩
abbrev S2x8448x6656 : Shape := ⟨3, ![2, 8448, 6656]⟩
abbrev S1x768x1024 : Shape := ⟨3, ![1, 768, 1024]⟩
abbrev S1x6x1024 : Shape := ⟨3, ![1, 6, 1024]⟩
abbrev S1x1024x3328 : Shape := ⟨3, ![1, 1024, 3328]⟩
abbrev S1x768x3328 : Shape := ⟨3, ![1, 768, 3328]⟩
abbrev S768x1024 : Shape := ⟨2, ![768, 1024]⟩
abbrev S768x1 : Shape := ⟨2, ![768, 1]⟩
abbrev S768 : Shape := ⟨1, ![768]⟩
abbrev S1024x3328 : Shape := ⟨2, ![1024, 3328]⟩
abbrev S768x3328 : Shape := ⟨2, ![768, 3328]⟩

abbrev nBuf : Space → Nat
  | .hbm => 18
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S6x1024, .f32⟩
  | .hbm, ⟨2, _⟩ => ⟨S2x6x1024, .f32⟩
  | .hbm, ⟨3, _⟩ => ⟨S1024, .f32⟩
  | .hbm, ⟨4, _⟩ => ⟨S1024x6656, .f32⟩
  | .hbm, ⟨5, _⟩ => ⟨S1x1024, .f32⟩
  | .hbm, ⟨6, _⟩ => ⟨S1x1024x6656, .f32⟩
  | .hbm, ⟨7, _⟩ => ⟨S1x1024x4096, .f32⟩
  | .hbm, ⟨8, _⟩ => ⟨S_, .f32⟩
  | .hbm, ⟨9, _⟩ => ⟨S1x1024x4096, .f32⟩
  | .hbm, ⟨10, _⟩ => ⟨S1x1024x4096, .f32⟩
  | .hbm, ⟨11, _⟩ => ⟨S1x1024x512, .f32⟩
  | .hbm, ⟨12, _⟩ => ⟨S1x1024x512, .f32⟩
  | .hbm, ⟨13, _⟩ => ⟨S1x1024x1280, .f32⟩
  | .hbm, ⟨14, _⟩ => ⟨S1x1024x256, .f32⟩
  | .hbm, ⟨15, _⟩ => ⟨S1x1024x6656, .f32⟩
  | .hbm, ⟨16, _⟩ => ⟨S1x1024x6656, .bf16⟩
  | .hbm, ⟨17, _⟩ => ⟨S2x8448x6656, .bf16⟩
  | .local _ .vmem, ⟨0, _⟩ => ⟨S1x768x1024, .f32⟩
  | .local _ .vmem, ⟨1, _⟩ => ⟨S1x768x1024, .f32⟩
  | .local _ .vmem, ⟨2, _⟩ => ⟨S6x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x1024, .f32⟩
  | .local _ .vmem, ⟨6, _⟩ => ⟨S1x1024x3328, .bf16⟩
  | .local _ .vmem, ⟨7, _⟩ => ⟨S1x1024x3328, .bf16⟩
  | .local _ .vmem, ⟨8, _⟩ => ⟨S1x768x3328, .bf16⟩
  | .local _ .vmem, ⟨9, _⟩ => ⟨S1x768x3328, .bf16⟩
  | .local _ .vmem, ⟨10, _⟩ => ⟨S768x1024, .bf16⟩
  | .local _ .vmem, ⟨11, _⟩ => ⟨S768x1024, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 11, 2], ![false, false, false]⟩

def k0_cond2 (i : grid0.Coords) : BitVec 1 :=
  let arg1 : BitVec 32 := BitVec.ofNat 32 (i 1).val
  let c2_i32 : BitVec 32 := 2#32
  let c0_i32_2 : BitVec 32 := 0#32
  let v6 : BitVec 1 := Scalar.cmpi .eq c2_i32 c0_i32_2
  let c1_i32_3 : BitVec 32 := 1#32
  let v7 : BitVec 32 := Scalar.select v6 c1_i32_3 c2_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let arg2 : BitVec 32 := BitVec.ofNat 32 (i 2).val
  let c1_i32 : BitVec 32 := 1#32
  let v0 : BitVec 1 := Scalar.cmpi .eq arg2 c1_i32
  let v_true : BitVec 1 := 1#1
  let v17 : BitVec 1 := Scalar.xori v0 v_true
  let v18 : BitVec 1 := Scalar.andi v16 v17
  let v19 : BitVec 32 := Scalar.extui v18
  let c0_i32_8 : BitVec 32 := 0#32
  let v20 : BitVec 1 := Scalar.cmpi .ne v19 c0_i32_8
  v20

def k0_cond3 (i : grid0.Coords) : BitVec 1 :=
  let arg1 : BitVec 32 := BitVec.ofNat 32 (i 1).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c0_i32_15 : BitVec 32 := 0#32
  let v31 : BitVec 1 := Scalar.cmpi .eq v30 c0_i32_15
  let arg2 : BitVec 32 := BitVec.ofNat 32 (i 2).val
  let c1_i32 : BitVec 32 := 1#32
  let v0 : BitVec 1 := Scalar.cmpi .eq arg2 c1_i32
  let v32 : BitVec 1 := Scalar.andi v31 v0
  let v33 : BitVec 32 := Scalar.extui v32
  let c0_i32_16 : BitVec 32 := 0#32
  let v34 : BitVec 1 := Scalar.cmpi .ne v33 c0_i32_16
  v34

def k0_cond4 (i : grid0.Coords) : BitVec 1 :=
  let arg1 : BitVec 32 := BitVec.ofNat 32 (i 1).val
  let c2_i32_17 : BitVec 32 := 2#32
  let c0_i32_18 : BitVec 32 := 0#32
  let v35 : BitVec 1 := Scalar.cmpi .eq c2_i32_17 c0_i32_18
  let c1_i32_19 : BitVec 32 := 1#32
  let v36 : BitVec 32 := Scalar.select v35 c1_i32_19 c2_i32_17
  let v37 : BitVec 32 := Scalar.remsi arg1 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c1_i32_23 : BitVec 32 := 1#32
  let v45 : BitVec 1 := Scalar.cmpi .eq v44 c1_i32_23
  let arg2 : BitVec 32 := BitVec.ofNat 32 (i 2).val
  let c1_i32 : BitVec 32 := 1#32
  let v0 : BitVec 1 := Scalar.cmpi .eq arg2 c1_i32
  let true_24 : BitVec 1 := 1#1
  let v46 : BitVec 1 := Scalar.xori v0 true_24
  let v47 : BitVec 1 := Scalar.andi v45 v46
  let v48 : BitVec 32 := Scalar.extui v47
  let c0_i32_25 : BitVec 32 := 0#32
  let v49 : BitVec 1 := Scalar.cmpi .ne v48 c0_i32_25
  v49

def k0_cond5 (i : grid0.Coords) : BitVec 1 :=
  let arg1 : BitVec 32 := BitVec.ofNat 32 (i 1).val
  let c2_i32_26 : BitVec 32 := 2#32
  let c0_i32_27 : BitVec 32 := 0#32
  let v50 : BitVec 1 := Scalar.cmpi .eq c2_i32_26 c0_i32_27
  let c1_i32_28 : BitVec 32 := 1#32
  let v51 : BitVec 32 := Scalar.select v50 c1_i32_28 c2_i32_26
  let v52 : BitVec 32 := Scalar.remsi arg1 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c1_i32_32 : BitVec 32 := 1#32
  let v60 : BitVec 1 := Scalar.cmpi .eq v59 c1_i32_32
  let arg2 : BitVec 32 := BitVec.ofNat 32 (i 2).val
  let c1_i32 : BitVec 32 := 1#32
  let v0 : BitVec 1 := Scalar.cmpi .eq arg2 c1_i32
  let v61 : BitVec 1 := Scalar.andi v60 v0
  let v62 : BitVec 32 := Scalar.extui v61
  let c0_i32_33 : BitVec 32 := 0#32
  let v63 : BitVec 1 := Scalar.cmpi .ne v62 c0_i32_33
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg2 c1_i32
  let v1 : BitVec 32 := Scalar.extui v0
  let v2 : BitVec 32 := Scalar.addi arg1 v1
  let c10_i32 : BitVec 32 := 10#32
  let v3 : BitVec 32 := Scalar.minsi v2 c10_i32
  let c0_i32 : BitVec 32 := 0#32
  let c0_i32_0 : BitVec 32 := 0#32
  ![arg0.toNat, v3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x768x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ProjectionReferenceIdeal.lean ====
abbrev S2x8448x1024 : Shape := ⟨3, ![2, 8448, 1024]⟩
abbrev S6x1024 : Shape := ⟨2, ![6, 1024]⟩
abbrev S2x6x1024 : Shape := ⟨3, ![2, 6, 1024]⟩
abbrev S1024 : Shape := ⟨1, ![1024]⟩
abbrev S1024x6656 : Shape := ⟨2, ![1024, 6656]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x256x1024 : Shape := ⟨3, ![2, 256, 1024]⟩
abbrev S1x1024 : Shape := ⟨2, ![1, 1024]⟩
abbrev S2x8192x1024 : Shape := ⟨3, ![2, 8192, 1024]⟩
abbrev S2x1x1024 : Shape := ⟨3, ![2, 1, 1024]⟩
abbrev S2x8448x6656 : Shape := ⟨3, ![2, 8448, 6656]⟩
abbrev S2x8448x4096 : Shape := ⟨3, ![2, 8448, 4096]⟩
abbrev S2x8448x512 : Shape := ⟨3, ![2, 8448, 512]⟩
abbrev S2x8448x1280 : Shape := ⟨3, ![2, 8448, 1280]⟩
abbrev S2x8448x256 : Shape := ⟨3, ![2, 8448, 256]⟩

abbrev nBuf : Space → Nat
  | .hbm => 55
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S6x1024, .f32⟩
  | .hbm, ⟨2, _⟩ => ⟨S2x6x1024, .f32⟩
  | .hbm, ⟨3, _⟩ => ⟨S1024, .f32⟩
  | .hbm, ⟨4, _⟩ => ⟨S1024x6656, .f32⟩
  | .hbm, ⟨5, _⟩ => ⟨S2x8448x1024, .f32⟩
  | .hbm, ⟨6, _⟩ => ⟨S_, .f32⟩
  | .hbm, ⟨7, _⟩ => ⟨S2x8448, .f32⟩
  | .hbm, ⟨8, _⟩ => ⟨S2x8448x1, .f32⟩
  | .hbm, ⟨9, _⟩ => ⟨S_, .f32⟩
  | .hbm, ⟨10, _⟩ => ⟨S2x8448x1, .f32⟩
  | .hbm, ⟨11, _⟩ => ⟨S2x8448x1, .f32⟩
  | .hbm, ⟨12, _⟩ => ⟨S_, .f32⟩
  | .hbm, ⟨13, _⟩ => ⟨S2x8448x1, .f32⟩
  | .hbm, ⟨14, _⟩ => ⟨S2x8448x1, .f32⟩
  | .hbm, ⟨15, _⟩ => ⟨S2x8448x1, .f32⟩
  | .hbm, ⟨16, _⟩ => ⟨S2x8448x1024, .f32⟩
  | .hbm, ⟨17, _⟩ => ⟨S2x8448x1024, .f32⟩
  | .hbm, ⟨18, _⟩ => ⟨S1x1x1024, .f32⟩
  | .hbm, ⟨19, _⟩ => ⟨S2x8448x1024, .f32⟩
  | .hbm, ⟨20, _⟩ => ⟨S2x8448x1024, .f32⟩
  | .hbm, ⟨21, _⟩ => ⟨S2x256x1024, .f32⟩
  | .hbm, ⟨22, _⟩ => ⟨S1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S2x256x1024, .f32⟩
  | .hbm, ⟨28, _⟩ => ⟨S2x256x1024, .f32⟩
  | .hbm, ⟨29, _⟩ => ⟨S1x1024, .f32⟩
  | .hbm, ⟨30, _⟩ => ⟨S1x1x1024, .f32⟩
  | .hbm, ⟨31, _⟩ => ⟨S2x256x1024, .f32⟩
  | .hbm, ⟨32, _⟩ => ⟨S2x256x1024, .f32⟩
  | .hbm, ⟨33, _⟩ => ⟨S2x8192x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8448x1024, .f32⟩
  | .hbm, ⟨44, _⟩ => ⟨S2x8448x6656, .f32⟩
  | .hbm, ⟨45, _⟩ => ⟨S2x8448x4096, .f32⟩
  | .hbm, ⟨46, _⟩ => ⟨S_, .f32⟩
  | .hbm, ⟨47, _⟩ => ⟨S2x8448x4096, .f32⟩
  | .hbm, ⟨48, _⟩ => ⟨S2x8448x4096, .f32⟩
  | .hbm, ⟨49, _⟩ => ⟨S2x8448x512, .f32⟩
  | .hbm, ⟨50, _⟩ => ⟨S2x8448x512, .f32⟩
  | .hbm, ⟨51, _⟩ => ⟨S2x8448x1280, .f32⟩
  | .hbm, ⟨52, _⟩ => ⟨S2x8448x256, .f32⟩
  | .hbm, ⟨53, _⟩ => ⟨S2x8448x6656, .f32⟩
  | .hbm, ⟨54, _⟩ => ⟨S2x8448x6656, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Merge.lean ====
abbrev S2x8448x1024 : Shape := ⟨3, ![2, 8448, 1024]⟩
abbrev S6x1024 : Shape := ⟨2, ![6, 1024]⟩
abbrev S2x6x1024 : Shape := ⟨3, ![2, 6, 1024]⟩
abbrev S2x8192x256 : Shape := ⟨3, ![2, 8192, 256]⟩
abbrev S2x256x256 : Shape := ⟨3, ![2, 256, 256]⟩
abbrev S2x8448x256 : Shape := ⟨3, ![2, 8448, 256]⟩
abbrev S2x8448x6656 : Shape := ⟨3, ![2, 8448, 6656]⟩
abbrev S2x8192x512 : Shape := ⟨3, ![2, 8192, 512]⟩
abbrev S2x256x512 : Shape := ⟨3, ![2, 256, 512]⟩
abbrev S256x1024 : Shape := ⟨2, ![256, 1024]⟩
abbrev S256 : Shape := ⟨1, ![256]⟩
abbrev S512x1024 : Shape := ⟨2, ![512, 1024]⟩
abbrev S1024x1024 : Shape := ⟨2, ![1024, 1024]⟩
abbrev S1024 : Shape := ⟨1, ![1024]⟩
abbrev S4x64x4x64 : Shape := ⟨4, ![4, 64, 4, 64]⟩
abbrev S_ : Shape := ⟨0, ![]⟩
abbrev S256x256 : Shape := ⟨2, ![256, 256]⟩
abbrev S1x256 : Shape := ⟨2, ![1, 256]⟩
abbrev S1x1024 : Shape := ⟨2, ![1, 1024]⟩
abbrev S1x256x1024 : Shape := ⟨3, ![1, 256, 1024]⟩
abbrev S1x6x1024 : Shape := ⟨3, ![1, 6, 1024]⟩
abbrev S1x256x256 : Shape := ⟨3, ![1, 256, 256]⟩
abbrev S1x256x512 : Shape := ⟨3, ![1, 256, 512]⟩
abbrev S1x256x4096 : Shape := ⟨3, ![1, 256, 4096]⟩
abbrev S256x512 : Shape := ⟨2, ![256, 512]⟩
abbrev S256x1 : Shape := ⟨2, ![256, 1]⟩

abbrev nBuf : Space → Nat
  | .hbm => 46
  | .vmem => 35
  | .smem => 0
  | _ => 0

abbrev bufTy : (tb : Table) → Fin (tcTables nBuf tb) → BufTy
  | .hbm, ⟨0, _⟩ => ⟨S2x8448x1024, .f32⟩
  | .hbm, ⟨1, _⟩ => ⟨S6x1024, .f32⟩
  | .hbm, ⟨2, _⟩ => ⟨S2x6x1024, .f32⟩
  | .hbm, ⟨3, _⟩ => ⟨S2x8192x256, .f32⟩
  | .hbm, ⟨4, _⟩ => ⟨S2x256x256, .f32⟩
  | .hbm, ⟨5, _⟩ => ⟨S2x8448x256, .f32⟩
  | .hbm, ⟨6, _⟩ => ⟨S2x8448x256, .f32⟩
  | .hbm, ⟨7, _⟩ => ⟨S2x8448x6656, .f32⟩
  | .hbm, ⟨8, _⟩ => ⟨S2x8192x512, .f32⟩
  | .hbm, ⟨9, _⟩ => ⟨S2x256x512, .f32⟩
  | .hbm, ⟨10, _⟩ => ⟨S2x8448x256, .f32⟩
  | .hbm, ⟨11, _⟩ => ⟨S256x1024, .f32⟩
  | .hbm, ⟨12, _⟩ => ⟨S256, .f32⟩
  | .hbm, ⟨13, _⟩ => ⟨S256x1024, .f32⟩
  | .hbm, ⟨14, _⟩ => ⟨S512x1024, .f32⟩
  | .hbm, ⟨15, _⟩ => ⟨S256x1024, .f32⟩
  | .hbm, ⟨16, _⟩ => ⟨S1024x1024, .f32⟩
  | .hbm, ⟨17, _⟩ => ⟨S1024, .f32⟩
  | .hbm, ⟨18, _⟩ => ⟨S2x8448x6656, .bf16⟩
  | .hbm, ⟨19, _⟩ => ⟨S2x8192x256, .bf16⟩
  | .hbm, ⟨20, _⟩ => ⟨S2x256x256, .bf16⟩
  | .hbm, ⟨21, _⟩ => ⟨S2x8192x512, .bf16⟩
  | .hbm, ⟨22, _⟩ => ⟨S2x256x512, .bf16⟩
  | .hbm, ⟨23, _⟩ => ⟨S2x8448x256, .bf16⟩
  | .hbm, ⟨24, _⟩ => ⟨S4x64x4x64, .i32⟩
  | .hbm, ⟨25, _⟩ => ⟨S4x64x4x64, .i32⟩
  | .hbm, ⟨26, _⟩ => ⟨S4x64x4x64, .i1⟩
  | .hbm, ⟨27, _⟩ => ⟨S_, .f32⟩
  | .hbm, ⟨28, _⟩ => ⟨S_, .f32⟩
  | .hbm, ⟨29, _⟩ => ⟨S4x64x4x64, .f32⟩
  | .hbm, ⟨30, _⟩ => ⟨S4x64x4x64, .f32⟩
  | .hbm, ⟨31, _⟩ => ⟨S4x64x4x64, .f32⟩
  | .hbm, ⟨32, _⟩ => ⟨S256x256, .f32⟩
  | .hbm, ⟨33, _⟩ => ⟨S256x256, .bf16⟩
  | .hbm, ⟨34, _⟩ => ⟨S256x1024, .bf16⟩
  | .hbm, ⟨35, _⟩ => ⟨S1x256, .f32⟩
  | .hbm, ⟨36, _⟩ => ⟨S256x1024, .bf16⟩
  | .hbm, ⟨37, _⟩ => ⟨S512x1024, .bf16⟩
  | .hbm, ⟨38, _⟩ => ⟨S256x1024, .bf16⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .bf16⟩
  | .hbm, ⟨43, _⟩ => ⟨S1x1024, .f32⟩
  | .hbm, ⟨44, _⟩ => ⟨S2x8448x1024, .f32⟩
  | .hbm, ⟨45, _⟩ => ⟨S2x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S6x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .bf16⟩
  | .local _ .vmem, ⟨14, _⟩ => ⟨S1x256x256, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x4096, .bf16⟩
  | .local _ .vmem, ⟨22, _⟩ => ⟨S1x256x4096, .bf16⟩
  | .local _ .vmem, ⟨23, _⟩ => ⟨S256x1024, .bf16⟩
  | .local _ .vmem, ⟨24, _⟩ => ⟨S1x256, .f32⟩
  | .local _ .vmem, ⟨25, _⟩ => ⟨S256x1024, .bf16⟩
  | .local _ .vmem, ⟨26, _⟩ => ⟨S512x1024, .bf16⟩
  | .local _ .vmem, ⟨27, _⟩ => ⟨S256x1024, .bf16⟩
  | .local _ .vmem, ⟨28, _⟩ => ⟨S1024x1024, .bf16⟩
  | .local _ .vmem, ⟨29, _⟩ => ⟨S1x1024, .f32⟩
  | .local _ .vmem, ⟨30, _⟩ => ⟨S256x256, .bf16⟩
  | .local _ .vmem, ⟨31, _⟩ => ⟨S1x256x1024, .f32⟩
  | .local _ .vmem, ⟨32, _⟩ => ⟨S1x256x1024, .f32⟩
  | .local _ .vmem, ⟨33, _⟩ => ⟨S1x256x1024, .bf16⟩
  | .local _ .vmem, ⟨34, _⟩ => ⟨S1x256x1024, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MergeReferenceIdeal.lean ====
abbrev S2x8448x1024 : Shape := ⟨3, ![2, 8448, 1024]⟩
abbrev S6x1024 : Shape := ⟨2, ![6, 1024]⟩
abbrev S2x6x1024 : Shape := ⟨3, ![2, 6, 1024]⟩
abbrev S2x8192x256 : Shape := ⟨3, ![2, 8192, 256]⟩
abbrev S2x256x256 : Shape := ⟨3, ![2, 256, 256]⟩
abbrev S2x8448x256 : Shape := ⟨3, ![2, 8448, 256]⟩
abbrev S2x8448x6656 : Shape := ⟨3, ![2, 8448, 6656]⟩
abbrev S2x8192x512 : Shape := ⟨3, ![2, 8192, 512]⟩
abbrev S2x256x512 : Shape := ⟨3, ![2, 256, 512]⟩
abbrev S256x1024 : Shape := ⟨2, ![256, 1024]⟩
abbrev S256 : Shape := ⟨1, ![256]⟩
abbrev S512x1024 : Shape := ⟨2, ![512, 1024]⟩
abbrev S1024x1024 : Shape := ⟨2, ![1024, 1024]⟩
abbrev S1024 : Shape := ⟨1, ![1024]⟩
abbrev S2x8448x4x64 : Shape := ⟨4, ![2, 8448, 4, 64]⟩
abbrev S_ : Shape := ⟨0, ![]⟩
abbrev S2x8448x4 : Shape := ⟨3, ![2, 8448, 4]⟩
abbrev S2x8448x4x1 : Shape := ⟨4, ![2, 8448, 4, 1]⟩
abbrev S4x64 : Shape := ⟨2, ![4, 64]⟩
abbrev S1x1x4x64 : Shape := ⟨4, ![1, 1, 4, 64]⟩
abbrev S2x8448x512 : Shape := ⟨3, ![2, 8448, 512]⟩
abbrev S2x256x1024 : Shape := ⟨3, ![2, 256, 1024]⟩
abbrev S1x1024 : Shape := ⟨2, ![1, 1024]⟩
abbrev S1x1x1024 : Shape := ⟨3, ![1, 1, 1024]⟩
abbrev S2x8192x1024 : Shape := ⟨3, ![2, 8192, 1024]⟩
abbrev S2x1x1024 : Shape := ⟨3, ![2, 1, 1024]⟩
abbrev S2x8448 : Shape := ⟨2, ![2, 8448]⟩
abbrev S2x8448x1 : Shape := ⟨3, ![2, 8448, 1]⟩

abbrev nBuf : Space → Nat
  | .hbm => 165
  | .vmem => 0
  | .smem => 0
  | _ => 0

abbrev hbmTy0_0 (i : Nat) : BufTy := match i % 128 with
  | 0 => ⟨S2x8448x1024, .f32⟩
  | 1 => ⟨S6x1024, .f32⟩
  | 2 => ⟨S2x6x1024, .f32⟩
  | 3 => ⟨S2x8192x256, .f32⟩
  | 4 => ⟨S2x256x256, .f32⟩
  | 5 => ⟨S2x8448x256, .f32⟩
  | 6 => ⟨S2x8448x256, .f32⟩
  | 7 => ⟨S2x8448x6656, .f32⟩
  | 8 => ⟨S2x8192x512, .f32⟩
  | 9 => ⟨S2x256x512, .f32⟩
  | 10 => ⟨S2x8448x256, .f32⟩
  | 11 => ⟨S256x1024, .f32⟩
  | 12 => ⟨S256, .f32⟩
  | 13 => ⟨S256x1024, .f32⟩
  | 14 => ⟨S512x1024, .f32⟩
  | 15 => ⟨S256x1024, .f32⟩
  | 16 => ⟨S1024x1024, .f32⟩
  | 17 => ⟨S1024, .f32⟩
  | 18 => ⟨S2x8448x256, .f32⟩
  | 19 => ⟨S2x8448x1024, .f32⟩
  | 20 => ⟨S2x8448x256, .f32⟩
  | 21 => ⟨S2x8448x4x64, .f32⟩
  | 22 => ⟨S2x8448x4x64, .f32⟩
  | 23 => ⟨S_, .f32⟩
  | 24 => ⟨S2x8448x4, .f32⟩
  | 25 => ⟨S2x8448x4x1, .f32⟩
  | 26 => ⟨S_, .f32⟩
  | 27 => ⟨S2x8448x4x1, .f32⟩
  | 28 => ⟨S2x8448x4x1, .f32⟩
  | 29 => ⟨S_, .f32⟩
  | 30 => ⟨S2x8448x4x1, .f32⟩
  | 31 => ⟨S2x8448x4x1, .f32⟩
  | 32 => ⟨S2x8448x4x1, .f32⟩
  | 33 => ⟨S2x8448x4x64, .f32⟩
  | 34 => ⟨S2x8448x4x64, .f32⟩
  | 35 => ⟨S4x64, .f32⟩
  | 36 => ⟨S1x1x4x64, .f32⟩
  | 37 => ⟨S2x8448x4x64, .f32⟩
  | 38 => ⟨S2x8448x4x64, .f32⟩
  | 39 => ⟨S2x8448x256, .f32⟩
  | 40 => ⟨S2x8448x256, .f32⟩
  | 41 => ⟨S2x8448x256, .f32⟩
  | 42 => ⟨S2x8448x256, .f32⟩
  | 43 => ⟨S_, .f32⟩
  | 44 => ⟨S2x8448x256, .f32⟩
  | 45 => ⟨S2x8448x256, .f32⟩
  | 46 => ⟨S_, .f32⟩
  | 47 => ⟨S2x8448x256, .f32⟩
  | 48 => ⟨S2x8448x256, .f32⟩
  | 49 => ⟨S2x8448x256, .f32⟩
  | 50 => ⟨S2x8448x256, .f32⟩
  | 51 => ⟨S2x8448x1024, .f32⟩
  | 52 => ⟨S2x8448x512, .f32⟩
  | 53 => ⟨S2x8448x1024, .f32⟩
  | 54 => ⟨S2x8448x1024, .f32⟩
  | 55 => ⟨S2x8448x1024, .f32⟩
  | 56 => ⟨S_, .f32⟩
  | 57 => ⟨S2x8448x1024, .f32⟩
  | 58 => ⟨S2x8448x1024, .f32⟩
  | 59 => ⟨S2x8448x1024, .f32⟩
  | 60 => ⟨S2x8448x1024, .f32⟩
  | 61 => ⟨S_, .f32⟩
  | 62 => ⟨S2x8448x1024, .f32⟩
  | 63 => ⟨S2x8448x1024, .f32⟩
  | 64 => ⟨S_, .f32⟩
  | 65 => ⟨S2x8448x1024, .f32⟩
  | 66 => ⟨S2x8448x1024, .f32⟩
  | 67 => ⟨S2x8448x1024, .f32⟩
  | 68 => ⟨S2x8448x1024, .f32⟩
  | 69 => ⟨S_, .f32⟩
  | 70 => ⟨S2x8448x1024, .f32⟩
  | 71 => ⟨S2x8448x1024, .f32⟩
  | 72 => ⟨S2x8448x1024, .f32⟩
  | 73 => ⟨S2x8448x1024, .f32⟩
  | 74 => ⟨S_, .f32⟩
  | 75 => ⟨S2x8448x1024, .f32⟩
  | 76 => ⟨S2x8448x1024, .f32⟩
  | 77 => ⟨S_, .f32⟩
  | 78 => ⟨S2x8448x1024, .f32⟩
  | 79 => ⟨S2x8448x1024, .f32⟩
  | 80 => ⟨S2x8448x1024, .f32⟩
  | 81 => ⟨S2x8448x1024, .f32⟩
  | 82 => ⟨S2x8448x1024, .f32⟩
  | 83 => ⟨S_, .f32⟩
  | 84 => ⟨S2x8448x1024, .f32⟩
  | 85 => ⟨S2x8448x1024, .f32⟩
  | 86 => ⟨S2x8448x1024, .f32⟩
  | 87 => ⟨S2x8448x1024, .f32⟩
  | 88 => ⟨S_, .f32⟩
  | 89 => ⟨S2x8448x1024, .f32⟩
  | 90 => ⟨S2x8448x1024, .f32⟩
  | 91 => ⟨S_, .f32⟩
  | 92 => ⟨S2x8448x1024, .f32⟩
  | 93 => ⟨S2x8448x1024, .f32⟩
  | 94 => ⟨S2x8448x1024, .f32⟩
  | 95 => ⟨S2x8448x1024, .f32⟩
  | 96 => ⟨S2x8448x1024, .f32⟩
  | 97 => ⟨S_, .f32⟩
  | 98 => ⟨S2x8448x1024, .f32⟩
  | 99 => ⟨S2x8448x1024, .f32⟩
  | 100 => ⟨S2x8448x1024, .f32⟩
  | 101 => ⟨S2x8448x1024, .f32⟩
  | 102 => ⟨S_, .f32⟩
  | 103 => ⟨S2x8448x1024, .f32⟩
  | 104 => ⟨S2x8448x1024, .f32⟩
  | 105 => ⟨S_, .f32⟩
  | 106 => ⟨S2x8448x1024, .f32⟩
  | 107 => ⟨S2x8448x1024, .f32⟩
  | 108 => ⟨S2x8448x1024, .f32⟩
  | 109 => ⟨S2x8448x1024, .f32⟩
  | 110 => ⟨S2x8448x1024, .f32⟩
  | 111 => ⟨S2x256x1024, .f32⟩
  | 112 => ⟨S1x1024, .f32⟩
  | 113 => ⟨S1x1x1024, .f32⟩
  | 114 => ⟨S2x256x1024, .f32⟩
  | 115 => ⟨S2x256x1024, .f32⟩
  | 116 => ⟨S2x256x1024, .f32⟩
  | 117 => ⟨S2x256x1024, .f32⟩
  | 118 => ⟨S2x8192x1024, .f32⟩
  | 119 => ⟨S2x1x1024, .f32⟩
  | 120 => ⟨S2x8192x1024, .f32⟩
  | 121 => ⟨S2x8192x1024, .f32⟩
  | 122 => ⟨S2x8192x1024, .f32⟩
  | 123 => ⟨S2x8192x1024, .f32⟩
  | 124 => ⟨S2x8448x1024, .f32⟩
  | 125 => ⟨S2x8448x1024, .f32⟩
  | 126 => ⟨S_, .f32⟩
  | 127 => ⟨S2x8448, .f32⟩
  | _ => ⟨S2x8448x1024, .f32⟩

abbrev hbmTy0_1 (i : Nat) : BufTy := match i % 128 with
  | 0 => ⟨S2x8448x1, .f32⟩
  | 1 => ⟨S_, .f32⟩
  | 2 => ⟨S2x8448x1, .f32⟩
  | 3 => ⟨S2x8448x1, .f32⟩
  | 4 => ⟨S_, .f32⟩
  | 5 => ⟨S2x8448x1, .f32⟩
  | 6 => ⟨S2x8448x1, .f32⟩
  | 7 => ⟨S2x8448x1, .f32⟩
  | 8 => ⟨S2x8448x1024, .f32⟩
  | 9 => ⟨S2x8448x1024, .f32⟩
  | 10 => ⟨S1x1x1024, .f32⟩
  | 11 => ⟨S2x8448x1024, .f32⟩
  | 12 => ⟨S2x8448x1024, .f32⟩
  | 13 => ⟨S2x256x1024, .f32⟩
  | 14 => ⟨S1x1024, .f32⟩
  | 15 => ⟨S1x1x1024, .f32⟩
  | 16 => ⟨S_, .f32⟩
  | 17 => ⟨S1x1x1024, .f32⟩
  | 18 => ⟨S1x1x1024, .f32⟩
  | 19 => ⟨S2x256x1024, .f32⟩
  | 20 => ⟨S2x256x1024, .f32⟩
  | 21 => ⟨S1x1024, .f32⟩
  | 22 => ⟨S1x1x1024, .f32⟩
  | 23 => ⟨S2x256x1024, .f32⟩
  | 24 => ⟨S2x256x1024, .f32⟩
  | 25 => ⟨S2x8192x1024, .f32⟩
  | 26 => ⟨S2x1x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x1x1024, .f32⟩
  | 33 => ⟨S2x8192x1024, .f32⟩
  | 34 => ⟨S2x8192x1024, .f32⟩
  | 35 => ⟨S2x8448x1024, .f32⟩
  | 36 => ⟨S2x8448x1024, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_v42 : Ref sig .tc := ⟨.hbm, 76, rfl⟩
abbrev main_cst_7 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_cst_13 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_v86 : Ref sig .tc := ⟨.hbm, 128, rfl⟩
abbrev main_cst_15 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_18 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]
-- ==== Proof.SoftmaxMath.lean ====
/-
  The arithmetic of a softmax average over the extended reals: real scores, arbitrary (possibly infinite) values.
  A weighted sum whose weights are powers of two of real scores may be rescaled by any positive real factor, so an
  average built tile by tile against a running maximum equals the average built at once.
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- A finite sum times a non-negative real is the sum of the products, whatever infinities the terms hold. -/
theorem sum_mul_real {ι : Type} (s : Finset ι) (x : ι → EReal) (c : ℝ) (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The same with the real factor on the left. -/
theorem real_mul_sum {ι : Type} (s : Finset ι) (x : ι → EReal) (c : ℝ) (hc : 0 ≤ c) :
    (c : EReal) * (∑ i ∈ s, x i) = ∑ i ∈ s, x i * (c : EReal) := by
  rw [mul_comm, sum_mul_real s x c hc]

/-- A sum of reals is the real sum. -/
theorem sum_real {ι : Type} (s : Finset ι) (x : ι → ℝ) : (∑ i ∈ s, (x i : EReal)) = ((∑ i ∈ s, x i : ℝ) : EReal) := by
  classical
  induction s using Finset.induction_on with
  | empty => simp
  | insert a s ha ih => rw [Finset.sum_insert ha, Finset.sum_insert ha, ih, EReal.coe_add]

/-- Two raised to a real difference. -/
theorem exp2_sub_real (a b : ℝ) : Ideal.exp2 ((a : EReal) - (b : EReal)) = (((2 : ℝ) ^ (a - b) : ℝ) : EReal) := by
  rw [← EReal.coe_sub]; rfl

/-- The natural exponential of a real difference. -/
theorem exp_sub_real (a b : ℝ) : Ideal.exp ((a : EReal) - (b : EReal)) = ((Real.exp (a - b) : ℝ) : EReal) := by
  rw [← EReal.coe_sub]; rfl

/-- Two raised to `-∞` less a real: the weight of the empty running state. -/
theorem exp2_bot_sub_real (b : ℝ) : Ideal.exp2 ((⊥ : EReal) - (b : EReal)) = 0 := by
  rw [EReal.bot_sub]; rfl

/-- Moving a weighted sum from the reference score `μ` to the reference score `μ'`. -/
theorem rescale {ι : Type} (s : Finset ι) (v : ι → EReal) (σ : ι → ℝ) (μ μ' : ℝ) :
    Ideal.exp2 ((μ : EReal) - (μ' : EReal)) * (∑ i ∈ s, v i * (((2 : ℝ) ^ (σ i - μ) : ℝ) : EReal))
      = ∑ i ∈ s, v i * (((2 : ℝ) ^ (σ i - μ') : ℝ) : EReal) := by
  rw [exp2_sub_real, real_mul_sum _ _ _ (by positivity)]
  refine Finset.sum_congr rfl fun i _ => ?_
  rw [mul_assoc, ← EReal.coe_mul, ← Real.rpow_add (by norm_num)]
  congr 3; ring

/-- The larger of two reals, as extended reals, is a real. -/
theorem exists_max_real (a b : ℝ) : ∃ ν : ℝ, max (a : EReal) (b : EReal) = (ν : EReal) := ⟨max a b, (EReal.coe_strictMono.monotone.map_max).symm⟩

/-- The maximum, from `-∞`, over a non-empty finite set of reals is a real. -/
theorem exists_fold_max_real {ι : Type} (s : Finset ι) (hs : s.Nonempty) (x : ι → EReal) (σ : ι → ℝ) (h : ∀ i, x i = (σ i : EReal)) :
    ∃ ν : ℝ, s.fold max (⊥ : EReal) x = (ν : EReal) := by
  classical
  induction hs using Finset.Nonempty.cons_induction with
  | singleton a => exact ⟨σ a, by rw [Finset.fold_singleton, h, max_eq_left bot_le]⟩
  | cons a s ha hs ih =>
    obtain ⟨ν, hν⟩ := ih
    rw [Finset.fold_cons, hν, h]
    exact exists_max_real _ _

/-- The quotient of the two weighted sums, base two: the reference score cancels. -/
theorem quotient_base_two {ι : Type} [Fintype ι] [Nonempty ι] (v : ι → EReal) (σ : ι → ℝ) (μ : ℝ) :
    Ideal.div (∑ i, v i * (((2 : ℝ) ^ (σ i - μ) : ℝ) : EReal)) (∑ i, (1 : EReal) * (((2 : ℝ) ^ (σ i - μ) : ℝ) : EReal))
      = ∑ i, v i * (((2 : ℝ) ^ (σ i) / (∑ k, (2 : ℝ) ^ (σ k)) : ℝ) : EReal) := by
  have hpos : 0 < ∑ i, (2 : ℝ) ^ (σ i - μ) := Finset.sum_pos (fun i _ => by positivity) Finset.univ_nonempty
  have hpos' : 0 < ∑ i, (2 : ℝ) ^ (σ i) := Finset.sum_pos (fun i _ => by positivity) Finset.univ_nonempty
  simp only [one_mul]
  rw [sum_real, Ideal.div_coe hpos.ne', sum_mul_real _ _ _ (by positivity)]
  refine Finset.sum_congr rfl fun i _ => ?_
  rw [mul_assoc, ← EReal.coe_mul]
  congr 2
  have e : ∀ k, (2 : ℝ) ^ (σ k - μ) = (2 : ℝ) ^ (σ k) * (2 : ℝ) ^ (-μ) := fun k => by
    rw [← Real.rpow_add (by norm_num), sub_eq_add_neg]
  simp only [e]
  rw [← Finset.sum_mul]
  have h2 : (2 : ℝ) ^ (-μ) ≠ 0 := by positivity
  field_simp

/-- The average with weights normalised first, base e, at any reference score `M`. -/
theorem average_base_e {ι : Type} [Fintype ι] [Nonempty ι] (v : ι → EReal) (σ : ι → ℝ) (M : ℝ) :
    (∑ i, v i * Ideal.div (((Real.exp (σ i - M)) : ℝ) : EReal) (∑ k, ((Real.exp (σ k - M) : ℝ) : EReal)))
      = ∑ i, v i * ((Real.exp (σ i) / (∑ k, Real.exp (σ k)) : ℝ) : EReal) := by
  have hpos : 0 < ∑ i, Real.exp (σ i - M) := Finset.sum_pos (fun i _ => by positivity) Finset.univ_nonempty
  have hpos' : 0 < ∑ i, Real.exp (σ i) := Finset.sum_pos (fun i _ => by positivity) Finset.univ_nonempty
  refine Finset.sum_congr rfl fun i _ => ?_
  rw [sum_real, Ideal.div_coe hpos.ne', ← EReal.coe_mul]
  congr 2
  simp only [Real.exp_sub]
  rw [← Finset.sum_div]
  have h2 : Real.exp M ≠ 0 := by positivity
  field_simp

/-- A base-two power of a score divided by `log 2` is the base-e power of the score. -/
theorem two_rpow_div_log (x : ℝ) : (2 : ℝ) ^ (x / Real.log 2) = Real.exp x := by
  rw [Real.rpow_def_of_pos (by norm_num)]
  congr 1
  have h : Real.log 2 ≠ 0 := (Real.log_pos (by norm_num)).ne'
  field_simp

/-- The word `0x3E000000` is one eighth. -/
theorem ofBits_eighth : Ideal.ofBits .f32 0x3E000000#32 = ((1 / 8 : ℝ) : EReal) := by
  simp [Ideal.ofBits, Ideal.ieee, -EReal.coe_mul]; norm_num

/-- The word `0x40000000` is two. -/
theorem ofBits_two : Ideal.ofBits .f32 0x40000000#32 = ((2 : ℝ) : EReal) := by
  simp [Ideal.ofBits, Ideal.ieee, -EReal.coe_mul]; norm_num

/-- The word `0xFF800000` is `-∞`. -/
theorem ofBits_neg_inf : Ideal.ofBits .f32 0xFF800000#32 = ⊥ := by
  simp [Ideal.ofBits, Ideal.ieee]

/-- The word `0x7F800000` is `+∞`. -/
theorem ofBits_inf : Ideal.ofBits .f32 0x7F800000#32 = ⊤ := by
  simp [Ideal.ofBits, Ideal.ieee]

end Cert.Softmax

end
-- ==== Proof.Finite.lean ====
/-
  The precondition: an argument whose magnitudes all lie below infinity is an array of real numbers.
-/
module

public import proofs.«01_k».proof.Pre_finite_qk
public import proofs.«01_k».proof.Proof.SoftmaxMath
public import Idealize.ShloMosaic.Lib.Pointwise

@[expose] public section

set_option maxRecDepth 16384

noncomputable section

namespace Cert.Pre_finite_qk

open Idealize.ShloMosaic Cert.Softmax

/-- The precondition's shape facts. -/
theorem facts : Facts := ⟨by decide, by decide⟩

/-- A value whose magnitude is below infinity is a real number. -/
theorem real_of_lt (x : EReal) (h : max x (-x) < ⊤) : x = (x.toReal : EReal) := by
  refine (EReal.coe_toReal ?_ ?_).symm
  · rintro rfl
    simp at h
  · rintro rfl
    simp at h

/-- A bit that is one came of `true`. -/
theorem eq_true_of_bit : ∀ b : Bool, BitVec.ofBool b = 1#1 → b = true := by decide

/-- The queries are real numbers. -/
theorem queries_real [hF : Facts] (q : FVec Ideal S2x8192x8x64 .f32) (k v : FVec Ideal S2x8448x2x64 .f32)
    (h : (fn q k v).1 = fun _ => 1#1) : q = fun i => ((q i).toReal : EReal) := by
  funext i
  have e := congrFun h i
  dsimp only [fn] at e
  revert e
  pointwise [ofBits_inf]
  exact fun e => real_of_lt _ (of_decide_eq_true (eq_true_of_bit _ e))

/-- The keys are real numbers. -/
theorem keys_real [hF : Facts] (q : FVec Ideal S2x8192x8x64 .f32) (k v : FVec Ideal S2x8448x2x64 .f32)
    (h : (fn q k v).2 = fun _ => 1#1) : k = fun i => ((k i).toReal : EReal) := by
  funext i
  have e := congrFun h i
  dsimp only [fn] at e
  revert e
  pointwise [ofBits_inf]
  exact fun e => real_of_lt _ (of_decide_eq_true (eq_true_of_bit _ e))

end Cert.Pre_finite_qk

end
-- ==== Proof.Attn.lean ====
/-
  Attention over real queries and keys: each output coordinate is the average of the values' coordinate over the keys, with weights the
  exponentials of the scaled scores over their sum. A group of four heads shares its keys and values.
-/
module

public import proofs.«01_k».proof.Proof.SoftmaxMath
public import Idealize.ShloMosaic.Lib.Pointwise

@[expose] public section

noncomputable section

namespace Cert.Attn

open Idealize.ShloMosaic

/-- The queries' shape. -/
abbrev SQ : Shape := ⟨4, ![2, 8192, 8, 64]⟩
/-- The keys' and the values'. -/
abbrev SK : Shape := ⟨4, ![2, 8448, 2, 64]⟩

/-- The head group of a head. -/
def groupOf (h : Fin 8) : Fin 2 := ⟨h.val / 4, by have := h.isLt; omega⟩
/-- The head of an output column. -/
def colHead (e : Fin 512) : Fin 8 := ⟨e.val / 64, by have := e.isLt; omega⟩
/-- Its coordinate within the head. -/
def colCoord (e : Fin 512) : Fin 64 := ⟨e.val % 64, Nat.mod_lt _ (by decide)⟩

/-- The product of a key with a query of a head of its group. -/
def score (q : SQ.Idx → ℝ) (k : SK.Idx → ℝ) (b : Fin 2) (r : Fin 8192) (h : Fin 8) (j : Fin 8448) : ℝ :=
  ∑ d : Fin 64, k (ix4 b j (groupOf h) d) * q (ix4 b r h d)

/-- The values averaged by the softmax of the scores over eight. -/
def attn (q : SQ.Idx → ℝ) (k : SK.Idx → ℝ) (v : SK.Idx → EReal) (b : Fin 2) (r : Fin 8192) (e : Fin 512) : EReal :=
  ∑ j : Fin 8448, v (ix4 b j (groupOf (colHead e)) (colCoord e))
    * ((Real.exp (score q k b r (colHead e) j * (1 / 8)) / (∑ j', Real.exp (score q k b r (colHead e) j' * (1 / 8))) : ℝ) : EReal)

end Cert.Attn

end
-- ==== Proof.Body.lean ====
/-
  What one visit of the attention kernel's body leaves in its scratch buffers and its output block, at the exact
  values: the running maximum, the rescaled weighted sums, and the next key tile's scores with their column maxima.
-/
module

public import proofs.«01_k».proof.Proof.Gen.KernelIdeal.Frame
public import proofs.«01_k».proof.Proof.SoftmaxMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax

/-- The larger of a column's running maximum and the tile's maximum. -/
def newMax (mp mx : Vec Ideal S1x2048 .f32) : Vec Ideal S1x2048 .f32 := fun y => max (mp y) (mx y)

/-- The weighted sums after a tile: the earlier sums rescaled, plus the tile's own. -/
def newAcc (vt : Vec Ideal S1x1x80x2816 .bf16) (st : Vec Ideal S2816x2048 .f32) (mp mx : Vec Ideal S1x2048 .f32)
    (ap : Vec Ideal S80x2048 .f32) : Vec Ideal S80x2048 .f32 := fun y =>
  Ideal.exp2 (mp (ix2 0 (y 1)) - max (mp (ix2 0 (y 1))) (mx (ix2 0 (y 1)))) * ap (ix2 (y 0) (y 1))
    + ∑ k : Fin 2816, vt (ix4 0 0 (y 0) k) * Ideal.exp2 (st (ix2 k (y 1)) - max (mp (ix2 0 (y 1))) (mx (ix2 0 (y 1))))

/-- The scores of a key tile against a block of queries. -/
def scoresOf (kb : Vec Ideal S1x1x2816x64 .bf16) (qb : Vec Ideal S1x1x64x2048 .bf16) : Vec Ideal S2816x2048 .f32 := fun y =>
  ∑ d : Fin 64, kb (ix4 0 0 (y 0) d) * qb (ix4 0 0 d (y 1))

/-- Their column maxima. -/
def maxOf (kb : Vec Ideal S1x1x2816x64 .bf16) (qb : Vec Ideal S1x1x64x2048 .bf16) : Vec Ideal S1x2048 .f32 := fun y =>
  (Finset.univ : Finset (Fin 2816)).fold max ⊥ fun k => scoresOf kb qb (ix2 k (y 1))

/-- The averages a block of queries is left with: each weighted sum over the sum of the weights, heads side by side. -/
def outOf (a : Vec Ideal S80x2048 .f32) : Vec Ideal S1x512x256 .bf16 := fun y =>
  Ideal.div (a (ix2 ⟨(y 2).val % 64, by have := Nat.mod_lt (y 2).val (show 0 < 64 by decide); omega⟩
      ⟨(y 1).val / 256 * 1024 + (y 2).val / 64 * 256 + (y 1).val % 256, by
        have h1 : (y 1).val < 512 := (y 1).isLt
        have h2 : (y 2).val < 256 := (y 2).isLt
        omega⟩))
    (a (ix2 64 ⟨(y 1).val / 256 * 1024 + (y 2).val / 64 * 256 + (y 1).val % 256, by
        have h1 : (y 1).val < 512 := (y 1).isLt
        have h2 : (y 2).val < 256 := (y 2).isLt
        omega⟩))

/-- Where a block of columns sits in its buffer. -/
theorem emb_cols {R C w o : ℕ} (inb : ∀ a, (![0, o] : Fin 2 → ℕ) a + (![R, w] : Fin 2 → ℕ) a ≤ (⟨2, ![R, C]⟩ : Shape).size a)
    (x0 : Fin R) (x1 : Fin w) (h : o + x1.val < C) :
    (Rect.unit (s := ⟨2, ![R, C]⟩) ![0, o] ![R, w] inb).emb (ix2 x0 x1) = ix2 x0 ⟨o + x1.val, h⟩ := by
  funext a
  apply Fin.ext
  match a with
  | ⟨0, _⟩ => show 0 + 1 * x0.val = x0.val; omega
  | ⟨1, _⟩ => show o + 1 * x1.val = o + x1.val; omega

/-- The block of queries the next point works on: the following block after the last key tile, else the present one. -/
def nextQ (j : ℕ) (qn qc : Vec Ideal S1x1x64x2048 .bf16) : Vec Ideal S1x1x64x2048 .bf16 := fun y =>
  Scalar.select (Scalar.cmpi .eq (BitVec.ofNat 32 j) 2#32) (qn y) (qc y)

/-- Where a block of rows sits in the output block. -/
theorem emb_rows {P R C w o : ℕ} (inb : ∀ a, (![0, o, 0] : Fin 3 → ℕ) a + (![P, w, C] : Fin 3 → ℕ) a ≤ (⟨3, ![P, R, C]⟩ : Shape).size a)
    (x0 : Fin P) (x1 : Fin w) (x2 : Fin C) (h : o + x1.val < R) :
    (Rect.unit (s := ⟨3, ![P, R, C]⟩) ![0, o, 0] ![P, w, C] inb).emb (ix3 x0 x1 x2) = ix3 x0 ⟨o + x1.val, h⟩ x2 := by
  funext a
  apply Fin.ext
  match a with
  | ⟨0, _⟩ => show 0 + 1 * x0.val = x0.val; omega
  | ⟨1, _⟩ => show o + 1 * x1.val = o + x1.val; omega
  | ⟨2, _⟩ => show 0 + 1 * x2.val = x2.val; omega

/-- What a load of the whole buffer reads after stores that cover it and are all blocks of one array. -/
theorem read_pieces {sig : RefSig} {κ : Kind} {sp : Space} {S : Shape} {e : EltTy} (G : S.Idx → Elt Ideal e) (v : View sig κ sp S e)
    {off : Fin S.rank → ℕ} (inb : ∀ a, off a + S.size a ≤ S.size a) (L : List (View.Piece (Elt Ideal) S e)) (h0 : ∀ a, off a = 0)
    (hc : ∀ y, ∃ p ∈ L, y ∈ p.1.set) (h : View.PiecesOf G L) : v.readCov L (Rect.unit off S.size inb).toLoadRect = G := by
  rw [View.readCov_eq_canon_ld _ _ _ hc, View.ld_unit_lit' inb _ h0]
  exact funext fun y => View.canon_apply_of_pieces G L h.mem y (hc y)

/-- What a visit leaves: the output block, the maximum, the sums, and the two pairs of scores and column maxima. -/
abbrev Kept := Vec Ideal S1x512x256 .bf16 × Vec Ideal S1x2048 .f32 × Vec Ideal S80x2048 .f32 × Vec Ideal S2816x2048 .f32
  × Vec Ideal S2816x2048 .f32 × Vec Ideal S1x2048 .f32 × Vec Ideal S1x2048 .f32

end Cert.KernelIdeal.Body

end
-- ==== Proof.Geometry.lean ====
/-
  Which parts of the arrays the attention kernel's visits work on. The 192 visits run over the batch (2), the groups of heads (2), the
  blocks of 2048 query columns (16) and the tiles of 2816 keys (3), the keys fastest.
-/
module

public import proofs.«01_k».proof.Proof.Body

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

/-- The scaled queries, transposed: sequence, group, coordinate, column. -/
def qs (c : Dev nD) : Vec Ideal S2x2x64x32768 .bf16 := V m c main_v7
/-- The keys: sequence, group, key, coordinate. -/
def ks (c : Dev nD) : Vec Ideal S2x2x8448x64 .bf16 := V m c main_v9
/-- The values, transposed, with a row of ones below them: sequence, group, coordinate, key. -/
def vs (c : Dev nD) : Vec Ideal S2x2x80x8448 .bf16 := V m c main_v14

/-- Each window's block of its array at a visit. -/
theorem idx : ∀ t : Fin grid0.N,
    win0_0.index t = ![t.val / 96, t.val / 48 % 2, 0, t.val / 3 % 16]
    ∧ win0_1.index t = ![t.val / 96, t.val / 48 % 2, 0, min (t.val / 3 % 16 + 1) 15]
    ∧ win0_2.index t = ![t.val / 96, t.val / 48 % 2, 0, 0]
    ∧ win0_3.index t = ![t.val / 96, t.val / 48 % 2, (t.val + 1) % 3, 0]
    ∧ win0_4.index t = ![t.val / 96, t.val / 48 % 2, 0, t.val % 3]
    ∧ win0_5.index t = ![t.val / 96, t.val / 3 % 16, t.val / 48 % 2]
    ∧ (grid0.coords t 3).val = t.val % 3 := by decide +kernel

/-- The sequence of the batch a visit works on. -/
def seqOf (n : ℕ) : Fin 2 := ⟨n / 96 % 2, Nat.mod_lt _ (by decide)⟩
/-- The group of heads. -/
def grpOf (n : ℕ) : Fin 2 := ⟨n / 48 % 2, Nat.mod_lt _ (by decide)⟩
/-- The query column that stands at column `x` of the visit's block. -/
def colOf (n : ℕ) (x : Fin 2048) : Fin 32768 := ⟨n / 3 % 16 * 2048 + x.val, by have := x.isLt; omega⟩
/-- The key that stands at row `k` of a tile. -/
def keyOf (j : ℕ) (k : Fin 2816) : Fin 8448 := ⟨j % 3 * 2816 + k.val, by have := k.isLt; omega⟩

/-- There are 192 visits. -/
theorem lt_N (t : Fin cfg0.N) : t.val < 192 := t.isLt.trans_eq N_0

/-- The visit's queries. -/
theorem blk_q (c : Dev nD) (t : Fin cfg0.N) (d : Fin 64) (x : Fin 2048) :
    iblk m c 0 t (ix4 0 0 d x) = qs m c (ix4 (seqOf t.val) (grpOf t.val) d (colOf t.val x)) := by
  have := lt_N t
  obtain ⟨h, -⟩ := idx t
  unfold seqOf grpOf colOf
  blk_ext [iblk, qs, ks, vs, h]

/-- The following visit's queries, where it belongs to the next block. -/
theorem blk_qn (c : Dev nD) (t : Fin cfg0.N) (d : Fin 64) (x : Fin 2048) (h2 : t.val % 3 = 2) (h48 : ¬(t.val + 1) % 48 = 0) :
    iblk m c 1 t (ix4 0 0 d x) = qs m c (ix4 (seqOf (t.val + 1)) (grpOf (t.val + 1)) d (colOf (t.val + 1) x)) := by
  have := lt_N t
  obtain ⟨-, h, -⟩ := idx t
  unfold seqOf grpOf colOf
  blk_ext [iblk, qs, ks, vs, h]

/-- The first tile's keys. -/
theorem blk_k0 (c : Dev nD) (t : Fin cfg0.N) (k : Fin 2816) (d : Fin 64) (h3 : t.val % 3 = 0) :
    iblk m c 2 t (ix4 0 0 k d) = ks m c (ix4 (seqOf t.val) (grpOf t.val) (keyOf t.val k) d) := by
  have := lt_N t
  obtain ⟨-, -, h, -⟩ := idx t
  unfold seqOf grpOf keyOf
  blk_ext [iblk, qs, ks, vs, h]

/-- The following visit's keys. -/
theorem blk_kn (c : Dev nD) (t : Fin cfg0.N) (k : Fin 2816) (d : Fin 64) (h48 : ¬(t.val + 1) % 48 = 0) :
    iblk m c 3 t (ix4 0 0 k d) = ks m c (ix4 (seqOf (t.val + 1)) (grpOf (t.val + 1)) (keyOf (t.val + 1) k) d) := by
  have := lt_N t
  obtain ⟨-, -, -, h, -⟩ := idx t
  unfold seqOf grpOf keyOf
  blk_ext [iblk, qs, ks, vs, h]

/-- The visit's values. -/
theorem blk_v (c : Dev nD) (t : Fin cfg0.N) (r : Fin 80) (k : Fin 2816) :
    iblk m c 4 t (ix4 0 0 r k) = vs m c (ix4 (seqOf t.val) (grpOf t.val) r (keyOf t.val k)) := by
  have := lt_N t
  obtain ⟨-, -, -, -, h, -⟩ := idx t
  unfold seqOf grpOf keyOf
  blk_ext [iblk, qs, ks, vs, h]

/-- The queries the next visit works on. -/
theorem nextQ_eq (c : Dev nD) (t : Fin cfg0.N) (d : Fin 64) (x : Fin 2048) (h48 : ¬(t.val + 1) % 48 = 0) :
    nextQ (grid0.coords t 3).val (iblk m c 1 t) (iblk m c 0 t) (ix4 0 0 d x)
      = qs m c (ix4 (seqOf (t.val + 1)) (grpOf (t.val + 1)) d (colOf (t.val + 1) x)) := by
  have hN := lt_N t
  obtain ⟨-, -, -, -, -, -, h⟩ := idx t
  rw [h]
  unfold nextQ
  by_cases h2 : t.val % 3 = 2
  · rw [h2, ← blk_qn m c t d x h2 h48]
    rfl
  · have e : Scalar.cmpi .eq (BitVec.ofNat 32 (t.val % 3)) 2#32 = 0#1 := by
      have h3 : t.val % 3 = 0 ∨ t.val % 3 = 1 := by omega
      rcases h3 with h3 | h3 <;> rw [h3] <;> rfl
    rw [e]
    refine (blk_q m c t d x).trans ?_
    unfold seqOf grpOf colOf
    congr 1
    refine congr (congr (congr (congrArg ix4 (Fin.ext ?_)) (Fin.ext ?_)) rfl) (Fin.ext ?_) <;> dsimp only <;> omega

end Cert.KernelIdeal.Body

end
-- ==== Proof.Entry.lean ====
/-
  The attention kernel's prepared operands, in terms of the queries, keys and values it is given: the scaled queries by column, the
  keys by group, the values with a row of ones below them.
-/
module

public import proofs.«01_k».proof.Proof.Geometry
public import Idealize.ShloMosaic.Lib.StableHlo.Run

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax

variable (m : (ℓ : Loc nD τ sig) → Buf (Elt Ideal) ℓ) (c : Dev nD)

/-- The queries the program is given. -/
def qIn : Vec Ideal S2x8192x8x64 .f32 := m ((c : Thread nD τ).loc main_arg0)
/-- The keys. -/
def kIn : Vec Ideal S2x8448x2x64 .f32 := m ((c : Thread nD τ).loc main_arg1)
/-- The values. -/
def vIn : Vec Ideal S2x8448x2x64 .f32 := m ((c : Thread nD τ).loc main_arg2)

/-- The row a query column belongs to. -/
def rowOf (n : Fin 32768) : Fin 8192 := ⟨n.val / 1024 * 256 + n.val % 256, by have := n.isLt; omega⟩
/-- The head a query column of group `g` belongs to. -/
def headOf (g : Fin 2) (n : Fin 32768) : Fin 8 := ⟨g.val * 4 + n.val / 256 % 4, by have := g.isLt; omega⟩

/-- The prepared keys are the keys, group before key. -/
theorem ks_eq (b g : Fin 2) (k : Fin 8448) (d : Fin 64) : ks m c (ix4 b g k d) = kIn m c (ix4 b k g d) := by
  unfold ks kIn
  entry_read
  pointwise

/-- The values with their further rows, as the operations that prepare them leave them. -/
theorem vs_arr : vs m c = truncf .bf16 (concatenate S2x2x80x8448 2
    [⟨S2x2x64x8448, transpose S2x2x64x8448 [0, 2, 3, 1] (vIn m c) transposes_S2x8448x2x64_S2x2x64x8448_0_2_3_1⟩,
      ⟨S2x2x1x8448, broadcastInDim S2x2x1x8448 ![] bcast_S_S2x2x1x8448 (constant (F := Ideal) S_ .f32 0x3F800000#32)⟩,
      ⟨S2x2x15x8448, broadcastInDim S2x2x15x8448 ![] bcast_S_S2x2x15x8448 (constant (F := Ideal) S_ .f32 0x00000000#32)⟩]
    concatenates_S2x2x64x8448_S2x2x1x8448_S2x2x15x8448_S2x2x80x8448_d2) bitsLt_bf16_f32 := by
  unfold vs vIn V
  after_results <;> rfl

/-- The first 64 of the prepared rows are the values. -/
theorem vs_eq (b g : Fin 2) (d : Fin 64) (k : Fin 8448) :
    vs m c (ix4 b g ⟨d.val, d.isLt.trans (by decide)⟩ k) = vIn m c (ix4 b k g d) := by
  have := d.isLt
  rw [vs_arr]
  pointwise

/-- The next row is all ones. -/
theorem vs_one (b g : Fin 2) (k : Fin 8448) : vs m c (ix4 b g 64 k) = (1 : EReal) := by
  rw [vs_arr]
  pointwise

/-- The prepared queries are the queries over eight and the logarithm of two. -/
theorem qs_eq (b g : Fin 2) (d : Fin 64) (n : Fin 32768) :
    qs m c (ix4 b g d n) = qIn m c (ix4 b (rowOf n) (headOf g n) d) * Ideal.div ((1 / 8 : ℝ) : EReal) (Ideal.log ((2 : ℝ) : EReal)) := by
  unfold qs qIn
  entry_read
  pointwise [ofBits_eighth, ofBits_two]
  rfl

end Cert.KernelIdeal.Body

end
-- ==== Proof.StepEven.lean ====
/-
  What a visit of the attention kernel at an even position leaves, from what the visit before left. The scores it works on were
  computed by the visit before; it computes the next tile's.
-/
module

public import proofs.«01_k».proof.Proof.Body

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax

variable (m : (ℓ : Loc nD τ sig) → Buf (Elt Ideal) ℓ)

set_option maxHeartbeats 400000

/-- At the first visit of a group of heads: the tile's scores are computed first, and the maximum and the sums start afresh. -/
theorem stepA (c : Dev nD) (t : Fin cfg0.N) (h0 : t.val % 48 = 0) (h1 : t.val % 3 = 0) (h2 : t.val % 2 = 0) (h3 : ¬t.val % 2 = 1) (h4 : ¬t.val % 3 = 2)
:
    (outsAt0 m c t.val t.isLt).2.1 = newMax (fun _ => ⊥) (maxOf (iblk m c 2 t) (iblk m c 0 t))
    ∧ (outsAt0 m c t.val t.isLt).2.2.1 = newAcc (iblk m c 4 t) (scoresOf (iblk m c 2 t) (iblk m c 0 t)) (fun _ => ⊥) (maxOf (iblk m c 2 t) (iblk m c 0 t)) (fun _ => 0)
    ∧ (outsAt0 m c t.val t.isLt).2.2.2.2.1 = scoresOf (iblk m c 3 t) (nextQ (grid0.coords t 3).val (iblk m c 1 t) (iblk m c 0 t))
    ∧ (outsAt0 m c t.val t.isLt).2.2.2.2.2.2 = maxOf (iblk m c 3 t) (nextQ (grid0.coords t 3).val (iblk m c 1 t) (iblk m c 0 t)) := by
  have e2 : k0_pay102 (iblk m c 0 t) (iblk m c 2 t) = scoresOf (iblk m c 2 t) (iblk m c 0 t) := by
    funext y
    idx_vars y
    unfold_payloads
    pointwise [scoresOf]
  have e3 : k0_pay103 (iblk m c 0 t) (iblk m c 2 t) = maxOf (iblk m c 2 t) (iblk m c 0 t) := by
    funext y
    idx_vars y
    unfold_payloads
    pointwise [maxOf, scoresOf]
    rfl
  rw [outsAt0_A m c t h0 h1 h2 h3 h4]
  refine ⟨?_, ?_, ?_, ?_⟩
  · frame_out
    try simp only [read_unread_whole]
    simp only [e2, e3]
    funext y
    unfold_payloads
    pointwise [newMax, ofBits_neg_inf]
  · -- the sums
    funext y
    frame_open
    simp (disch := decide) only [↓ View.readCov_skip, ↓ View.readCov_cons_toLoadRect, ↓ View.readCov_fill]
    frame_out
    try simp only [read_unread_whole]
    simp only [e2, e3]
    refine View.canon_append_of_piecesOf (newAcc (iblk m c 4 t) (scoresOf (iblk m c 2 t) (iblk m c 0 t)) (fun _ => ⊥) (maxOf (iblk m c 2 t) (iblk m c 0 t)) (fun _ => 0)) [_] [_, _, _, _, _, _, _, _] ?_ y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc, ofBits_neg_inf]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl

/-- At the last key tile, at an even visit; the averages are stored. -/
theorem stepC (c : Dev nD) (t : Fin cfg0.N) (h0 : ¬t.val % 48 = 0) (h1 : ¬t.val % 3 = 0) (h2 : t.val % 2 = 0) (h3 : ¬t.val % 2 = 1) (h4 : t.val % 3 = 2)
    (s : Kept) (hs : outsAt0 m c (t.val - 1) (Nat.lt_of_le_of_lt (Nat.sub_le _ _) t.isLt) = s) :
    (outsAt0 m c t.val t.isLt).2.1 = newMax s.2.1 s.2.2.2.2.2.1
    ∧ (outsAt0 m c t.val t.isLt).2.2.1 = newAcc (iblk m c 4 t) s.2.2.2.1 s.2.1 s.2.2.2.2.2.1 s.2.2.1
    ∧ (outsAt0 m c t.val t.isLt).2.2.2.2.1 = scoresOf (iblk m c 3 t) (nextQ (grid0.coords t 3).val (iblk m c 1 t) (iblk m c 0 t))
    ∧ (outsAt0 m c t.val t.isLt).2.2.2.2.2.2 = maxOf (iblk m c 3 t) (nextQ (grid0.coords t 3).val (iblk m c 1 t) (iblk m c 0 t))
    ∧ (outsAt0 m c t.val t.isLt).1 = outOf (newAcc (iblk m c 4 t) s.2.2.2.1 s.2.1 s.2.2.2.2.2.1 s.2.2.1) := by
  obtain ⟨so, mp, ap, sa, sb, xa, xb⟩ := s
  rw [outsAt0_C m c t h0 h1 h2 h3 h4, hs]
  refine ⟨?_, ?_, ?_, ?_, ?_⟩
  · frame_out
    simp only [read_unread_whole]
    funext y
    unfold_payloads
    pointwise [newMax]
  · -- the sums
    funext y
    frame_open
    simp (disch := decide) only [↓ View.readCov_skip, ↓ View.readCov_cons_toLoadRect, ↓ View.readCov_fill]
    frame_out
    try simp only [read_unread_whole]
    refine View.canon_apply_of_pieces (newAcc (iblk m c 4 t) sa mp xa ap) _ (View.PiecesOf.mem ?_) y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl
  · -- the averages
    funext y
    frame_open
    simp (disch := decide) only [↓ View.readCov_skip, ↓ View.readCov_cons_toLoadRect, ↓ View.readCov_fill]
    frame_out
    try simp only [read_unread_whole]
    rw [read_pieces (newAcc (iblk m c 4 t) sa mp xa ap) _ _ _ (by decide) (View.cover_of_tiledL _ ![80, 256] (by sl_kernel_rfl)) ?_]
    swap
    · refine ⟨?_, ?_, ?_, ?_, ?_, ?_, ?_, ?_, trivial⟩
      all_goals
        intro x
        idx_vars x
        rw [emb_cols _ _ _ (by omega)]
        unfold_payloads
        pointwise [newAcc]
        rfl
    generalize (newAcc (iblk m c 4 t) sa mp xa ap) = A
    refine View.canon_apply_of_pieces (outOf A) _ (View.PiecesOf.mem ?_) y (View.cover_of_tiledL _ ![1, 256, 256] (by sl_kernel_rfl) y)
    refine ⟨?_, ?_, trivial⟩
    all_goals
      intro x
      idx_vars x
      rw [emb_rows _ _ _ _ (by omega)]
      unfold_payloads
      pointwise [outOf]
      split_ifs
      all_goals
        exact congrArg₂ Ideal.div (congrArg A (congrArg₂ ix2 (Fin.ext (by dsimp only; omega)) (Fin.ext (by dsimp only; omega))))
          (congrArg A (congrArg₂ ix2 rfl (Fin.ext (by dsimp only; omega))))

/-- At the middle key tile, at an even visit. -/
theorem stepE (c : Dev nD) (t : Fin cfg0.N) (h0 : ¬t.val % 48 = 0) (h1 : ¬t.val % 3 = 0) (h2 : t.val % 2 = 0) (h3 : ¬t.val % 2 = 1) (h4 : ¬t.val % 3 = 2)
    (s : Kept) (hs : outsAt0 m c (t.val - 1) (Nat.lt_of_le_of_lt (Nat.sub_le _ _) t.isLt) = s) :
    (outsAt0 m c t.val t.isLt).2.1 = newMax s.2.1 s.2.2.2.2.2.1
    ∧ (outsAt0 m c t.val t.isLt).2.2.1 = newAcc (iblk m c 4 t) s.2.2.2.1 s.2.1 s.2.2.2.2.2.1 s.2.2.1
    ∧ (outsAt0 m c t.val t.isLt).2.2.2.2.1 = scoresOf (iblk m c 3 t) (nextQ (grid0.coords t 3).val (iblk m c 1 t) (iblk m c 0 t))
    ∧ (outsAt0 m c t.val t.isLt).2.2.2.2.2.2 = maxOf (iblk m c 3 t) (nextQ (grid0.coords t 3).val (iblk m c 1 t) (iblk m c 0 t)) := by
  obtain ⟨so, mp, ap, sa, sb, xa, xb⟩ := s
  rw [outsAt0_E m c t h0 h1 h2 h3 h4, hs]
  refine ⟨?_, ?_, ?_, ?_⟩
  · frame_out
    simp only [read_unread_whole]
    funext y
    unfold_payloads
    pointwise [newMax]
  · -- the sums
    funext y
    frame_open
    simp (disch := decide) only [↓ View.readCov_skip, ↓ View.readCov_cons_toLoadRect, ↓ View.readCov_fill]
    frame_out
    try simp only [read_unread_whole]
    refine View.canon_apply_of_pieces (newAcc (iblk m c 4 t) sa mp xa ap) _ (View.PiecesOf.mem ?_) y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl

/-- At the first key tile, at a later even visit: the maximum and the sums start afresh. -/
theorem stepG (c : Dev nD) (t : Fin cfg0.N) (h0 : ¬t.val % 48 = 0) (h1 : t.val % 3 = 0) (h2 : t.val % 2 = 0) (h3 : ¬t.val % 2 = 1) (h4 : ¬t.val % 3 = 2)
    (s : Kept) (hs : outsAt0 m c (t.val - 1) (Nat.lt_of_le_of_lt (Nat.sub_le _ _) t.isLt) = s) :
    (outsAt0 m c t.val t.isLt).2.1 = newMax (fun _ => ⊥) s.2.2.2.2.2.1
    ∧ (outsAt0 m c t.val t.isLt).2.2.1 = newAcc (iblk m c 4 t) s.2.2.2.1 (fun _ => ⊥) s.2.2.2.2.2.1 (fun _ => 0)
    ∧ (outsAt0 m c t.val t.isLt).2.2.2.2.1 = scoresOf (iblk m c 3 t) (nextQ (grid0.coords t 3).val (iblk m c 1 t) (iblk m c 0 t))
    ∧ (outsAt0 m c t.val t.isLt).2.2.2.2.2.2 = maxOf (iblk m c 3 t) (nextQ (grid0.coords t 3).val (iblk m c 1 t) (iblk m c 0 t)) := by
  obtain ⟨so, mp, ap, sa, sb, xa, xb⟩ := s
  rw [outsAt0_G m c t h0 h1 h2 h3 h4, hs]
  refine ⟨?_, ?_, ?_, ?_⟩
  · frame_out
    simp only [read_unread_whole]
    funext y
    unfold_payloads
    pointwise [newMax, ofBits_neg_inf]
  · -- the sums
    funext y
    frame_open
    simp (disch := decide) only [↓ View.readCov_skip, ↓ View.readCov_cons_toLoadRect, ↓ View.readCov_fill]
    frame_out
    try simp only [read_unread_whole]
    refine View.canon_append_of_piecesOf (newAcc (iblk m c 4 t) sa (fun _ => ⊥) xa (fun _ => 0)) [_] [_, _, _, _, _, _, _, _] ?_ y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc, ofBits_neg_inf]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl

end Cert.KernelIdeal.Body

end
-- ==== Proof.StepOdd.lean ====
/-
  What a visit of the attention kernel at an odd position leaves, from what the visit before left. The scores it works on were
  computed by the visit before; it computes the next tile's.
-/
module

public import proofs.«01_k».proof.Proof.Body

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax

variable (m : (ℓ : Loc nD τ sig) → Buf (Elt Ideal) ℓ)

set_option maxHeartbeats 400000

/-- At the middle key tile, at an odd visit. -/
theorem stepB (c : Dev nD) (t : Fin cfg0.N) (h0 : ¬t.val % 48 = 0) (h1 : ¬t.val % 3 = 0) (h2 : ¬t.val % 2 = 0) (h3 : t.val % 2 = 1) (h4 : ¬t.val % 3 = 2)
    (s : Kept) (hs : outsAt0 m c (t.val - 1) (Nat.lt_of_le_of_lt (Nat.sub_le _ _) t.isLt) = s) :
    (outsAt0 m c t.val t.isLt).2.1 = newMax s.2.1 s.2.2.2.2.2.2
    ∧ (outsAt0 m c t.val t.isLt).2.2.1 = newAcc (iblk m c 4 t) s.2.2.2.2.1 s.2.1 s.2.2.2.2.2.2 s.2.2.1
    ∧ (outsAt0 m c t.val t.isLt).2.2.2.1 = scoresOf (iblk m c 3 t) (nextQ (grid0.coords t 3).val (iblk m c 1 t) (iblk m c 0 t))
    ∧ (outsAt0 m c t.val t.isLt).2.2.2.2.2.1 = maxOf (iblk m c 3 t) (nextQ (grid0.coords t 3).val (iblk m c 1 t) (iblk m c 0 t)) := by
  obtain ⟨so, mp, ap, sa, sb, xa, xb⟩ := s
  rw [outsAt0_B m c t h0 h1 h2 h3 h4, hs]
  refine ⟨?_, ?_, ?_, ?_⟩
  · frame_out
    simp only [read_unread_whole]
    funext y
    unfold_payloads
    pointwise [newMax]
  · -- the sums
    funext y
    frame_open
    simp (disch := decide) only [↓ View.readCov_skip, ↓ View.readCov_cons_toLoadRect, ↓ View.readCov_fill]
    frame_out
    try simp only [read_unread_whole]
    refine View.canon_apply_of_pieces (newAcc (iblk m c 4 t) sb mp xb ap) _ (View.PiecesOf.mem ?_) y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl

/-- At the first key tile, at an odd visit: the maximum and the sums start afresh. -/
theorem stepD (c : Dev nD) (t : Fin cfg0.N) (h0 : ¬t.val % 48 = 0) (h1 : t.val % 3 = 0) (h2 : ¬t.val % 2 = 0) (h3 : t.val % 2 = 1) (h4 : ¬t.val % 3 = 2)
    (s : Kept) (hs : outsAt0 m c (t.val - 1) (Nat.lt_of_le_of_lt (Nat.sub_le _ _) t.isLt) = s) :
    (outsAt0 m c t.val t.isLt).2.1 = newMax (fun _ => ⊥) s.2.2.2.2.2.2
    ∧ (outsAt0 m c t.val t.isLt).2.2.1 = newAcc (iblk m c 4 t) s.2.2.2.2.1 (fun _ => ⊥) s.2.2.2.2.2.2 (fun _ => 0)
    ∧ (outsAt0 m c t.val t.isLt).2.2.2.1 = scoresOf (iblk m c 3 t) (nextQ (grid0.coords t 3).val (iblk m c 1 t) (iblk m c 0 t))
    ∧ (outsAt0 m c t.val t.isLt).2.2.2.2.2.1 = maxOf (iblk m c 3 t) (nextQ (grid0.coords t 3).val (iblk m c 1 t) (iblk m c 0 t)) := by
  obtain ⟨so, mp, ap, sa, sb, xa, xb⟩ := s
  rw [outsAt0_D m c t h0 h1 h2 h3 h4, hs]
  refine ⟨?_, ?_, ?_, ?_⟩
  · frame_out
    simp only [read_unread_whole]
    funext y
    unfold_payloads
    pointwise [newMax, ofBits_neg_inf]
  · -- the sums
    funext y
    frame_open
    simp (disch := decide) only [↓ View.readCov_skip, ↓ View.readCov_cons_toLoadRect, ↓ View.readCov_fill]
    frame_out
    try simp only [read_unread_whole]
    refine View.canon_append_of_piecesOf (newAcc (iblk m c 4 t) sb (fun _ => ⊥) xb (fun _ => 0)) [_] [_, _, _, _, _, _, _, _] ?_ y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc, ofBits_neg_inf]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl

/-- At the last key tile, at an odd visit; the averages are stored. -/
theorem stepF (c : Dev nD) (t : Fin cfg0.N) (h0 : ¬t.val % 48 = 0) (h1 : ¬t.val % 3 = 0) (h2 : ¬t.val % 2 = 0) (h3 : t.val % 2 = 1) (h4 : t.val % 3 = 2)
    (s : Kept) (hs : outsAt0 m c (t.val - 1) (Nat.lt_of_le_of_lt (Nat.sub_le _ _) t.isLt) = s) :
    (outsAt0 m c t.val t.isLt).2.1 = newMax s.2.1 s.2.2.2.2.2.2
    ∧ (outsAt0 m c t.val t.isLt).2.2.1 = newAcc (iblk m c 4 t) s.2.2.2.2.1 s.2.1 s.2.2.2.2.2.2 s.2.2.1
    ∧ (outsAt0 m c t.val t.isLt).2.2.2.1 = scoresOf (iblk m c 3 t) (nextQ (grid0.coords t 3).val (iblk m c 1 t) (iblk m c 0 t))
    ∧ (outsAt0 m c t.val t.isLt).2.2.2.2.2.1 = maxOf (iblk m c 3 t) (nextQ (grid0.coords t 3).val (iblk m c 1 t) (iblk m c 0 t))
    ∧ (outsAt0 m c t.val t.isLt).1 = outOf (newAcc (iblk m c 4 t) s.2.2.2.2.1 s.2.1 s.2.2.2.2.2.2 s.2.2.1) := by
  obtain ⟨so, mp, ap, sa, sb, xa, xb⟩ := s
  rw [outsAt0_F m c t h0 h1 h2 h3 h4, hs]
  refine ⟨?_, ?_, ?_, ?_, ?_⟩
  · frame_out
    simp only [read_unread_whole]
    funext y
    unfold_payloads
    pointwise [newMax]
  · -- the sums
    funext y
    frame_open
    simp (disch := decide) only [↓ View.readCov_skip, ↓ View.readCov_cons_toLoadRect, ↓ View.readCov_fill]
    frame_out
    try simp only [read_unread_whole]
    refine View.canon_apply_of_pieces (newAcc (iblk m c 4 t) sb mp xb ap) _ (View.PiecesOf.mem ?_) y (View.cover_of_tiledL _ ![80, 256] (by sl_kernel_rfl) y)
    refine ⟨?_, ?_, ?_, ?_, ?_, ?_, ?_, ?_, trivial⟩
    all_goals
      intro x
      idx_vars x
      rw [emb_cols _ _ _ (by omega)]
      unfold_payloads
      pointwise [newAcc]
      rfl
  · -- the next scores
    funext y
    frame_open
    simp (disch := decide) only [↓ View.readCov_skip, ↓ View.readCov_cons_toLoadRect, ↓ View.readCov_fill]
    frame_out
    try simp only [read_unread_whole]
    refine View.canon_apply_of_pieces (scoresOf (iblk m c 3 t) (nextQ (grid0.coords t 3).val (iblk m c 1 t) (iblk m c 0 t))) _ (View.PiecesOf.mem ?_) y (View.cover_of_tiledL _ ![2816, 256] (by sl_kernel_rfl) y)
    refine ⟨?_, ?_, ?_, ?_, ?_, ?_, ?_, ?_, trivial⟩
    all_goals
      intro x
      idx_vars x
      rw [emb_cols _ _ _ (by omega)]
      unfold_payloads
      pointwise [scoresOf, nextQ]
  · -- their maxima
    funext y
    frame_open
    simp (disch := decide) only [↓ View.readCov_skip, ↓ View.readCov_cons_toLoadRect, ↓ View.readCov_fill]
    frame_out
    try simp only [read_unread_whole]
    refine View.canon_apply_of_pieces (maxOf (iblk m c 3 t) (nextQ (grid0.coords t 3).val (iblk m c 1 t) (iblk m c 0 t))) _ (View.PiecesOf.mem ?_) y (View.cover_of_tiledL _ ![1, 256] (by sl_kernel_rfl) y)
    refine ⟨?_, ?_, ?_, ?_, ?_, ?_, ?_, ?_, trivial⟩
    all_goals
      intro x
      idx_vars x
      rw [emb_cols _ _ _ (by omega)]
      unfold_payloads
      pointwise [maxOf, scoresOf, nextQ]
      rfl
  · -- the averages
    funext y
    frame_open
    simp (disch := decide) only [↓ View.readCov_skip, ↓ View.readCov_cons_toLoadRect, ↓ View.readCov_fill]
    frame_out
    try simp only [read_unread_whole]
    rw [read_pieces (newAcc (iblk m c 4 t) sb mp xb ap) _ _ _ (by decide) (View.cover_of_tiledL _ ![80, 256] (by sl_kernel_rfl)) ?_]
    swap
    · refine ⟨?_, ?_, ?_, ?_, ?_, ?_, ?_, ?_, trivial⟩
      all_goals
        intro x
        idx_vars x
        rw [emb_cols _ _ _ (by omega)]
        unfold_payloads
        pointwise [newAcc]
        rfl
    generalize (newAcc (iblk m c 4 t) sb mp xb ap) = A
    refine View.canon_apply_of_pieces (outOf A) _ (View.PiecesOf.mem ?_) y (View.cover_of_tiledL _ ![1, 256, 256] (by sl_kernel_rfl) y)
    refine ⟨?_, ?_, trivial⟩
    all_goals
      intro x
      idx_vars x
      rw [emb_rows _ _ _ _ (by omega)]
      unfold_payloads
      pointwise [outOf]
      split_ifs
      all_goals
        exact congrArg₂ Ideal.div (congrArg A (congrArg₂ ix2 (Fin.ext (by dsimp only; omega)) (Fin.ext (by dsimp only; omega))))
          (congrArg A (congrArg₂ ix2 rfl (Fin.ext (by dsimp only; omega))))

end Cert.KernelIdeal.Body

end
-- ==== Proof.Flow.lean ====
/-
  The attention kernel's running state, visit after visit: a column's maximum is a real number, its weighted sums are the sums over
  the keys met so far with weights two to the score less that number, and the scores of the next tile stand ready.
-/
module

public import proofs.«01_k».proof.Proof.Geometry
public import proofs.«01_k».proof.Proof.StepEven
public import proofs.«01_k».proof.Proof.StepOdd

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax

variable (m : (ℓ : Loc nD τ sig) → Buf (Elt Ideal) ℓ) (c : Dev nD)

/-- The scores, as real numbers: by sequence, group, query column and key. -/
abbrev Scores := Fin 2 → Fin 2 → Fin 32768 → Fin 8448 → ℝ

/-- The real numbers are the products of the keys with the queries. -/
def IsScores (S : Scores) : Prop := ∀ b g n k,
  ∑ d : Fin 64, ks m c (ix4 b g k d) * qs m c (ix4 b g d n) = (S b g n k : EReal)

variable (S : Scores)

/-- The scores of visit `n` stand in a buffer, with a real number for each column. -/
def Ready (n : ℕ) (st : Vec Ideal S2816x2048 .f32) (mx : Vec Ideal S1x2048 .f32) : Prop := ∀ x : Fin 2048,
  (∀ k : Fin 2816, st (ix2 k x) = (S (seqOf n) (grpOf n) (colOf n x) (keyOf n k) : EReal)) ∧ ∃ ν : ℝ, mx (ix2 0 x) = (ν : EReal)

/-- The sums after visit `n`: over the tiles up to its own, each value weighted by two to its score less the column's number. -/
def Weighed (n : ℕ) (a : Vec Ideal S80x2048 .f32) (mx : Vec Ideal S1x2048 .f32) : Prop := ∀ x : Fin 2048,
  ∃ μ : ℝ, mx (ix2 0 x) = (μ : EReal) ∧ ∀ r : Fin 80, a (ix2 r x)
    = ∑ i ∈ Finset.range (n % 3 + 1), ∑ k : Fin 2816, vs m c (ix4 (seqOf n) (grpOf n) r (keyOf i k))
        * (((2 : ℝ) ^ (S (seqOf n) (grpOf n) (colOf n x) (keyOf i k) - μ) : ℝ) : EReal)

/-- The running state after visit `n`. -/
def Inv (n : ℕ) (s : Kept) : Prop :=
  Weighed m c S n s.2.2.1 s.2.1
  ∧ (¬(n + 1) % 48 = 0 → Ready S (n + 1) (if n % 2 = 0 then s.2.2.2.2.1 else s.2.2.2.1) (if n % 2 = 0 then s.2.2.2.2.2.2 else s.2.2.2.2.2.1))

variable {m c S}

/-- A tile's products with a block of queries, and their column maxima, are the scores of the visit whose tile and queries they are. -/
theorem ready_of (hS : IsScores m c S) (n : ℕ) (kb : Vec Ideal S1x1x2816x64 .bf16) (qb : Vec Ideal S1x1x64x2048 .bf16)
    (hk : ∀ k d, kb (ix4 0 0 k d) = ks m c (ix4 (seqOf n) (grpOf n) (keyOf n k) d))
    (hq : ∀ d x, qb (ix4 0 0 d x) = qs m c (ix4 (seqOf n) (grpOf n) d (colOf n x))) :
    Ready S n (scoresOf kb qb) (maxOf kb qb) := by
  intro x
  have e : ∀ k : Fin 2816, scoresOf kb qb (ix2 k x) = (S (seqOf n) (grpOf n) (colOf n x) (keyOf n k) : EReal) := fun k => by
    refine Eq.trans ?_ (hS (seqOf n) (grpOf n) (colOf n x) (keyOf n k))
    show ∑ d : Fin 64, kb (ix4 0 0 k d) * qb (ix4 0 0 d x) = _
    exact Finset.sum_congr rfl fun d _ => by rw [hk, hq]
  exact ⟨e, exists_fold_max_real Finset.univ ⟨0, Finset.mem_univ _⟩ _ _ e⟩

/-- At the first tile the sums are the tile's own. -/
theorem weighed_first (n : ℕ) (h : n % 3 = 0) (vt : Vec Ideal S1x1x80x2816 .bf16) (st : Vec Ideal S2816x2048 .f32)
    (mx : Vec Ideal S1x2048 .f32) (hv : ∀ r k, vt (ix4 0 0 r k) = vs m c (ix4 (seqOf n) (grpOf n) r (keyOf n k)))
    (hr : Ready S n st mx) : Weighed m c S n (newAcc vt st (fun _ => ⊥) mx (fun _ => 0)) (newMax (fun _ => ⊥) mx) := by
  intro x
  obtain ⟨hs, ν, hν⟩ := hr x
  have hm : max (⊥ : EReal) (mx (ix2 0 x)) = (ν : EReal) := by rw [hν]; exact max_eq_right bot_le
  refine ⟨ν, hm, fun r => ?_⟩
  show Ideal.exp2 ((⊥ : EReal) - max (⊥ : EReal) (mx (ix2 0 x))) * 0
    + ∑ k : Fin 2816, vt (ix4 0 0 r k) * Ideal.exp2 (st (ix2 k x) - max (⊥ : EReal) (mx (ix2 0 x))) = _
  rw [hm, mul_zero, zero_add, h, Finset.sum_range_one]
  refine Finset.sum_congr rfl fun k _ => ?_
  rw [hv, hs, exp2_sub_real]
  have e : keyOf n k = keyOf 0 k := by unfold keyOf; exact Fin.ext (by dsimp only; omega)
  rw [e]

/-- At a later tile the earlier sums are carried over to the new number, and the tile's own added. -/
theorem weighed_next (n : ℕ) (h : ¬n % 3 = 0) (vt : Vec Ideal S1x1x80x2816 .bf16) (st : Vec Ideal S2816x2048 .f32)
    (mp mx : Vec Ideal S1x2048 .f32) (ap : Vec Ideal S80x2048 .f32)
    (hv : ∀ r k, vt (ix4 0 0 r k) = vs m c (ix4 (seqOf n) (grpOf n) r (keyOf n k)))
    (hr : Ready S n st mx) (hw : Weighed m c S (n - 1) ap mp) : Weighed m c S n (newAcc vt st mp mx ap) (newMax mp mx) := by
  intro x
  obtain ⟨hs, ν, hν⟩ := hr x
  obtain ⟨μ, hμ, ha⟩ := hw x
  obtain ⟨μ', hm⟩ := exists_max_real μ ν
  have hm' : max (mp (ix2 0 x)) (mx (ix2 0 x)) = (μ' : EReal) := by rw [hμ, hν]; exact hm
  refine ⟨μ', hm', fun r => ?_⟩
  show Ideal.exp2 (mp (ix2 0 x) - max (mp (ix2 0 x)) (mx (ix2 0 x))) * ap (ix2 r x)
    + ∑ k : Fin 2816, vt (ix4 0 0 r k) * Ideal.exp2 (st (ix2 k x) - max (mp (ix2 0 x)) (mx (ix2 0 x))) = _
  have eb : seqOf (n - 1) = seqOf n := by unfold seqOf; exact Fin.ext (by dsimp only; omega)
  have eg : grpOf (n - 1) = grpOf n := by unfold grpOf; exact Fin.ext (by dsimp only; omega)
  have ec : colOf (n - 1) x = colOf n x := by unfold colOf; exact Fin.ext (by dsimp only; omega)
  have en : (n - 1) % 3 + 1 = n % 3 := by omega
  rw [hm', ha, hμ, eb, eg, ec, en, Finset.sum_range_succ, ← Finset.sum_product', ← Finset.sum_product']
  refine congrArg₂ (· + ·) (rescale _ (fun p : ℕ × Fin 2816 => vs m c (ix4 (seqOf n) (grpOf n) r (keyOf p.1 p.2)))
    (fun p => S (seqOf n) (grpOf n) (colOf n x) (keyOf p.1 p.2)) μ μ') ?_
  refine Finset.sum_congr rfl fun k _ => ?_
  rw [hv, hs, exp2_sub_real]
  have e : keyOf n k = keyOf (n % 3) k := by unfold keyOf; exact Fin.ext (by dsimp only; omega)
  rw [e]

/-- The running state holds after every visit. -/
theorem inv (hS : IsScores m c S) : ∀ (n : ℕ) (h : n < cfg0.N), Inv m c S n (outsAt0 m c n h) := by
  intro n
  induction n using Nat.strong_induction_on with
  | _ n ih =>
  intro h
  let t : Fin cfg0.N := ⟨n, h⟩
  have hv : ∀ r k, iblk m c 4 t (ix4 0 0 r k) = vs m c (ix4 (seqOf n) (grpOf n) r (keyOf n k)) := blk_v m c t
  have hnext : ¬(n + 1) % 48 = 0 → Ready S (n + 1) (scoresOf (iblk m c 3 t) (nextQ (grid0.coords t 3).val (iblk m c 1 t) (iblk m c 0 t)))
      (maxOf (iblk m c 3 t) (nextQ (grid0.coords t 3).val (iblk m c 1 t) (iblk m c 0 t))) := fun h48 =>
    ready_of hS (n + 1) _ _ (fun k d => blk_kn m c t k d h48) (fun d x => nextQ_eq m c t d x h48)
  by_cases h0 : n % 48 = 0
  · obtain ⟨e1, e2, e3, e4⟩ := stepA m c t h0 (by show n % 3 = 0; omega) (by show n % 2 = 0; omega) (by show ¬n % 2 = 1; omega) (by show ¬n % 3 = 2; omega)
    have hr : Ready S n _ _ := ready_of hS n _ _ (fun k d => blk_k0 m c t k d (by show n % 3 = 0; omega)) (fun d x => blk_q m c t d x)
    refine ⟨?_, fun h48 => ?_⟩
    · rw [show outsAt0 m c n h = outsAt0 m c t.val t.isLt from rfl, e1, e2]
      exact weighed_first n (by omega) _ _ _ hv hr
    · rw [show outsAt0 m c n h = outsAt0 m c t.val t.isLt from rfl, if_pos (by omega), if_pos (by omega), e3, e4]
      exact hnext h48
  · have hp := ih (n - 1) (by omega) (Nat.lt_of_le_of_lt (Nat.sub_le _ _) h)
    have hn1 : n - 1 + 1 = n := by omega
    obtain ⟨hw, hr⟩ := hp
    rw [hn1] at hr
    have hr := hr h0
    by_cases h2 : n % 2 = 0
    · rw [if_neg (by omega), if_neg (by omega)] at hr
      refine ⟨?_, fun h48 => ?_⟩
      · by_cases h1 : n % 3 = 0
        · obtain ⟨e1, e2, e3, e4⟩ := stepG m c t h0 h1 h2 (by show ¬n % 2 = 1; omega) (by show ¬n % 3 = 2; omega) _ rfl
          rw [show outsAt0 m c n h = outsAt0 m c t.val t.isLt from rfl, e1, e2]
          exact weighed_first n h1 _ _ _ hv hr
        · by_cases h4 : n % 3 = 2
          · obtain ⟨e1, e2, e3, e4, -⟩ := stepC m c t h0 h1 h2 (by show ¬n % 2 = 1; omega) h4 _ rfl
            rw [show outsAt0 m c n h = outsAt0 m c t.val t.isLt from rfl, e1, e2]
            exact weighed_next n h1 _ _ _ _ _ hv hr hw
          · obtain ⟨e1, e2, e3, e4⟩ := stepE m c t h0 h1 h2 (by show ¬n % 2 = 1; omega) h4 _ rfl
            rw [show outsAt0 m c n h = outsAt0 m c t.val t.isLt from rfl, e1, e2]
            exact weighed_next n h1 _ _ _ _ _ hv hr hw
      · rw [show outsAt0 m c n h = outsAt0 m c t.val t.isLt from rfl, if_pos h2, if_pos h2]
        have e : (outsAt0 m c t.val t.isLt).2.2.2.2.1 = scoresOf (iblk m c 3 t) (nextQ (grid0.coords t 3).val (iblk m c 1 t) (iblk m c 0 t))
            ∧ (outsAt0 m c t.val t.isLt).2.2.2.2.2.2 = maxOf (iblk m c 3 t) (nextQ (grid0.coords t 3).val (iblk m c 1 t) (iblk m c 0 t)) := by
          by_cases h1 : n % 3 = 0
          · obtain ⟨-, -, e3, e4⟩ := stepG m c t h0 h1 h2 (by show ¬n % 2 = 1; omega) (by show ¬n % 3 = 2; omega) _ rfl
            exact ⟨e3, e4⟩
          · by_cases h4 : n % 3 = 2
            · obtain ⟨-, -, e3, e4, -⟩ := stepC m c t h0 h1 h2 (by show ¬n % 2 = 1; omega) h4 _ rfl
              exact ⟨e3, e4⟩
            · obtain ⟨-, -, e3, e4⟩ := stepE m c t h0 h1 h2 (by show ¬n % 2 = 1; omega) h4 _ rfl
              exact ⟨e3, e4⟩
        rw [e.1, e.2]
        exact hnext h48
    · have h3 : n % 2 = 1 := by omega
      rw [if_pos (by omega), if_pos (by omega)] at hr
      refine ⟨?_, fun h48 => ?_⟩
      · by_cases h1 : n % 3 = 0
        · obtain ⟨e1, e2, e3, e4⟩ := stepD m c t h0 h1 h2 h3 (by show ¬n % 3 = 2; omega) _ rfl
          rw [show outsAt0 m c n h = outsAt0 m c t.val t.isLt from rfl, e1, e2]
          exact weighed_first n h1 _ _ _ hv hr
        · by_cases h4 : n % 3 = 2
          · obtain ⟨e1, e2, e3, e4, -⟩ := stepF m c t h0 h1 h2 h3 h4 _ rfl
            rw [show outsAt0 m c n h = outsAt0 m c t.val t.isLt from rfl, e1, e2]
            exact weighed_next n h1 _ _ _ _ _ hv hr hw
          · obtain ⟨e1, e2, e3, e4⟩ := stepB m c t h0 h1 h2 h3 h4 _ rfl
            rw [show outsAt0 m c n h = outsAt0 m c t.val t.isLt from rfl, e1, e2]
            exact weighed_next n h1 _ _ _ _ _ hv hr hw
      · rw [show outsAt0 m c n h = outsAt0 m c t.val t.isLt from rfl, if_neg h2, if_neg h2]
        have e : (outsAt0 m c t.val t.isLt).2.2.2.1 = scoresOf (iblk m c 3 t) (nextQ (grid0.coords t 3).val (iblk m c 1 t) (iblk m c 0 t))
            ∧ (outsAt0 m c t.val t.isLt).2.2.2.2.2.1 = maxOf (iblk m c 3 t) (nextQ (grid0.coords t 3).val (iblk m c 1 t) (iblk m c 0 t)) := by
          by_cases h1 : n % 3 = 0
          · obtain ⟨-, -, e3, e4⟩ := stepD m c t h0 h1 h2 h3 (by show ¬n % 3 = 2; omega) _ rfl
            exact ⟨e3, e4⟩
          · by_cases h4 : n % 3 = 2
            · obtain ⟨-, -, e3, e4, -⟩ := stepF m c t h0 h1 h2 h3 h4 _ rfl
              exact ⟨e3, e4⟩
            · obtain ⟨-, -, e3, e4⟩ := stepB m c t h0 h1 h2 h3 h4 _ rfl
              exact ⟨e3, e4⟩
        rw [e.1, e.2]
        exact hnext h48

/-- At the last tile the stored block is the averages of the sums. -/
theorem stored (t : Fin cfg0.N) (h4 : t.val % 3 = 2) : (outsAt0 m c t.val t.isLt).1 = outOf (outsAt0 m c t.val t.isLt).2.2.1 := by
  have h0 : ¬t.val % 48 = 0 := by omega
  have h1 : ¬t.val % 3 = 0 := by omega
  by_cases h2 : t.val % 2 = 0
  · obtain ⟨-, e2, -, -, e5⟩ := stepC m c t h0 h1 h2 (by omega) h4 _ rfl
    rw [e5, e2]
  · obtain ⟨-, e2, -, -, e5⟩ := stepF m c t h0 h1 h2 (by omega) h4 _ rfl
    rw [e5, e2]

/-- A sum over the tiles and their rows is a sum over the keys. -/
theorem sum_tiles {A : Type} [AddCommMonoid A] (f : Fin 8448 → A) : ∑ i ∈ Finset.range 3, ∑ k : Fin 2816, f (keyOf i k) = ∑ k, f k := by
  rw [Finset.sum_range, ← Fintype.sum_prod_type' (f := fun (i : Fin 3) (k : Fin 2816) => f (keyOf i.val k))]
  refine Fintype.sum_equiv (finProdFinEquiv (m := 3) (n := 2816)) _ _ fun p => ?_
  refine congrArg f (Fin.ext ?_)
  have := p.1.isLt
  show p.1.val % 3 * 2816 + p.2.val = p.2.val + 2816 * p.1.val
  omega

/-- The column of the block at which row `a`, head offset `e` of the output stands. -/
def place (a : Fin 512) (e : Fin 256) : Fin 2048 :=
  ⟨a.val / 256 * 1024 + e.val / 64 * 256 + a.val % 256, by have := a.isLt; have := e.isLt; omega⟩

/-- What is stored at the last tile: the values averaged with the weights two to the score, over their sum. -/
theorem stored_value (hS : IsScores m c S) (hone : ∀ b g k, vs m c (ix4 b g 64 k) = (1 : EReal)) (t : Fin cfg0.N) (h4 : t.val % 3 = 2)
    (a : Fin 512) (e : Fin 256) : (outsAt0 m c t.val t.isLt).1 (ix3 0 a e)
      = ∑ k : Fin 8448, (vs m c (ix4 (seqOf t.val) (grpOf t.val) ⟨e.val % 64, by have := Nat.mod_lt e.val (show 0 < 64 by decide); omega⟩ k) : EReal)
          * (((2 : ℝ) ^ (S (seqOf t.val) (grpOf t.val) (colOf t.val (place a e)) k)
              / (∑ k', (2 : ℝ) ^ (S (seqOf t.val) (grpOf t.val) (colOf t.val (place a e)) k') : ℝ)) : ℝ) := by
  obtain ⟨μ, -, ha⟩ := (inv hS t.val t.isLt).1 (place a e)
  have es : ∀ r : Fin 80, (outsAt0 m c t.val t.isLt).2.2.1 (ix2 r (place a e)) = ∑ k : Fin 8448, vs m c (ix4 (seqOf t.val) (grpOf t.val) r k)
      * (((2 : ℝ) ^ (S (seqOf t.val) (grpOf t.val) (colOf t.val (place a e)) k - μ) : ℝ) : EReal) := fun r => by
    rw [ha r, h4]
    exact sum_tiles (fun k => vs m c (ix4 (seqOf t.val) (grpOf t.val) r k)
      * (((2 : ℝ) ^ (S (seqOf t.val) (grpOf t.val) (colOf t.val (place a e)) k - μ) : ℝ) : EReal))
  rw [stored t h4]
  exact (congrArg₂ Ideal.div (es _) ((es 64).trans (by simp only [hone]))).trans (quotient_base_two _ _ μ)

end Cert.KernelIdeal.Body

end
-- ==== Proof.Output.lean ====
/-
  The attention kernel's result array, of real queries and keys: the base-two exponentials of its scaled scores are the exponentials of the
  scores over eight, and the blocks stored at the last key tiles cover the array.
-/
module

public import proofs.«01_k».proof.Proof.Attn
public import proofs.«01_k».proof.Proof.Entry
public import proofs.«01_k».proof.Proof.Flow
public import proofs.«01_k».proof.Proof.Gen.KernelIdeal.Value

@[expose] public section

set_option maxRecDepth 16384

noncomputable section

namespace Cert.KernelIdeal.Body

open Cert.KernelIdeal Cert.KernelIdeal.Gen Idealize.ShloMosaic Idealize.ShloMosaic.TcCoe Idealize.SL.Sem
open Cert.Softmax Cert.Attn

variable (m : (ℓ : Loc nD τ sig) → Buf (Elt Ideal) ℓ) (c : Dev nD)
variable (q : SQ.Idx → ℝ) (k : SK.Idx → ℝ)

/-- The scaled scores, by query column: over eight and the logarithm of two. -/
def scaled : Scores := fun b g n j => score q k b (rowOf n) (headOf g n) j * (1 / 8) / Real.log 2

/-- The logarithm of two. -/
theorem log_two : Ideal.log ((2 : ℝ) : EReal) = ((Real.log 2 : ℝ) : EReal) := by
  rw [Ideal.log_coe, if_neg (by norm_num)]

/-- The products of the kernel's keys and queries are the scaled scores. -/
theorem isScores (hq : qIn m c = fun i => (q i : EReal)) (hk : kIn m c = fun i => (k i : EReal)) : IsScores m c (scaled q k) := by
  intro b g n j
  have hg : groupOf (headOf g n) = g := Fin.ext (show (g.val * 4 + n.val / 256 % 4) / 4 = g.val by omega)
  simp only [ks_eq, qs_eq, hq, hk, log_two, Ideal.div_coe (Real.log_pos one_lt_two).ne']
  simp only [← EReal.coe_mul, sum_real]
  refine congrArg _ ?_
  unfold scaled score
  rw [hg, Finset.sum_mul, Finset.sum_div]
  exact Finset.sum_congr rfl fun d _ => by ring

/-- Two to a scaled score is the exponential of the score over eight. -/
theorem two_rpow_scaled (b g : Fin 2) (n : Fin 32768) (j : Fin 8448) :
    (2 : ℝ) ^ scaled q k b g n j = Real.exp (score q k b (rowOf n) (headOf g n) j * (1 / 8)) := two_rpow_div_log _

/-- What is stored at the last tile of a block, as the average over the keys. -/
theorem stored_attn (hq : qIn m c = fun i => (q i : EReal)) (hk : kIn m c = fun i => (k i : EReal)) (t : Fin cfg0.N) (h4 : t.val % 3 = 2)
    (a : Fin 512) (e : Fin 256) : (outsAt0 m c t.val t.isLt).1 (ix3 0 a e)
      = attn q k (vIn m c) (seqOf t.val) ⟨t.val / 3 % 16 * 512 + a.val, by have := a.isLt; omega⟩
          ⟨t.val / 48 % 2 * 256 + e.val, by have := e.isLt; omega⟩ := by
  have ha := a.isLt
  have he := e.isLt
  rw [stored_value (isScores m c q k hq hk) (vs_one m c) t h4 a e]
  have hr : rowOf (colOf t.val (place a e)) = ⟨t.val / 3 % 16 * 512 + a.val, by omega⟩ := Fin.ext
    (show (t.val / 3 % 16 * 2048 + (a.val / 256 * 1024 + e.val / 64 * 256 + a.val % 256)) / 1024 * 256
      + (t.val / 3 % 16 * 2048 + (a.val / 256 * 1024 + e.val / 64 * 256 + a.val % 256)) % 256 = t.val / 3 % 16 * 512 + a.val by omega)
  have hh : headOf (grpOf t.val) (colOf t.val (place a e)) = colHead ⟨t.val / 48 % 2 * 256 + e.val, by omega⟩ := Fin.ext
    (show t.val / 48 % 2 * 4 + (t.val / 3 % 16 * 2048 + (a.val / 256 * 1024 + e.val / 64 * 256 + a.val % 256)) / 256 % 4
      = (t.val / 48 % 2 * 256 + e.val) / 64 by omega)
  have hg : groupOf (colHead ⟨t.val / 48 % 2 * 256 + e.val, by omega⟩) = grpOf t.val := Fin.ext
    (show (t.val / 48 % 2 * 256 + e.val) / 64 / 4 = t.val / 48 % 2 by omega)
  have hd : colCoord ⟨t.val / 48 % 2 * 256 + e.val, by omega⟩ = ⟨e.val % 64, Nat.mod_lt _ (by decide)⟩ := Fin.ext
    (show (t.val / 48 % 2 * 256 + e.val) % 64 = e.val % 64 by omega)
  unfold attn
  rw [hg, hd]
  simp only [two_rpow_scaled, hr, hh]
  exact Finset.sum_congr rfl fun j _ => congrArg (· * _) (vs_eq m c (seqOf t.val) (grpOf t.val) ⟨e.val % 64, Nat.mod_lt _ (by decide)⟩ j)

/-- The result array. -/
theorem array_eq (hq : qIn m c = fun i => (q i : EReal)) (hk : kIn m c = fun i => (k i : EReal)) :
    (dats m 0 c).arrAt 5 cfg0.N = fun y => attn q k (vIn m c) (y 0) (y 1) (y 2) := by
  refine (dats m 0 c).arrAt_eq_of_covers 5 _ (by decide +kernel) fun t hf y => ?_
  have h4 : t.val % 3 = 2 := (flush0_5 t).1 hf
  have := lt_N t
  obtain ⟨-, -, -, -, -, h, -⟩ := idx t
  blk_simp
  rw [after0_5]
  idx_vars y
  have he : (win0_5.blk t).view.emb (ix3 y0 y1 y2) = ix3 (seqOf t.val) ⟨t.val / 3 % 16 * 512 + y1.val, by have := y1.isLt; omega⟩
      ⟨t.val / 48 % 2 * 256 + y2.val, by have := y2.isLt; omega⟩ := by
    unfold seqOf
    blk_ext [h]
  rw [he, Subsingleton.elim y0 0]
  exact stored_attn m c q k hq hk t h4 y1 y2

end Cert.KernelIdeal.Body

end
-- ==== Proof.Reference.lean ====
/-
  The reference's result, as the average it is: scores over eight, less their largest, exponentials over their sum, values averaged.
-/
module

public import proofs.«01_k».proof.Proof.Attn
public import proofs.«01_k».proof.Proof.Gen.ReferenceIdeal.Run
public import Idealize.ShloMosaic.Lib.Pipeline.ValueKit

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Softmax Cert.Attn

/-- The scores over eight, by sequence, group, head of the group, query and key. -/
def scores (q : FVec Ideal S2x8192x8x64 .f32) (k : FVec Ideal S2x8448x2x64 .f32) : FVec Ideal S2x2x4x8192x8448 .f32 :=
  mulf (transpose S2x2x4x8192x8448 [0, 1, 4, 3, 2] (Host.dotGeneral dot_S2x8448x2x64_S2x8192x2x4x64_S2x2x8448x8192x4_3_4_1_13_02_02 none k
    (shapeCast _ q shapeCasts_S2x8192x8x64_S2x8192x2x4x64)) transposes_S2x2x8448x8192x4_S2x2x4x8192x8448_0_1_4_3_2)
    (broadcastInDim S2x2x4x8192x8448 ![] bcast_S_S2x2x4x8192x8448 (constant S_ .f32 0x3E000000#32))

/-- One number for each query, repeated for every key. -/
def spread (x : FVec Ideal S2x2x4x8192 .f32) : FVec Ideal S2x2x4x8192x8448 .f32 :=
  broadcastInDim S2x2x4x8192x8448 ![0, 1, 2, 3, 4] bcast_S2x2x4x8192x1_S2x2x4x8192x8448_0_1_2_3_4
    (broadcastInDim S2x2x4x8192x1 ![0, 1, 2, 3] bcast_S2x2x4x8192_S2x2x4x8192x1_0_1_2_3 x)

/-- A number no smaller than minus infinity. -/
def capped (x : FVec Ideal S2x2x4x8192 .f32) : FVec Ideal S2x2x4x8192 .f32 :=
  maximumf (broadcastInDim S2x2x4x8192 ![] bcast_S_S2x2x4x8192 (constant S_ .f32 0xFF800000#32)) x

/-- Each query's largest score. -/
def largest (s : FVec Ideal S2x2x4x8192x8448 .f32) : FVec Ideal S2x2x4x8192 .f32 :=
  capped (Host.reduce FloatOps.maximumf s (constant S_ .f32 0xFF800000#32) reducesTo_S2x2x4x8192x8448_S2x2x4x8192_d4 h_S_)

/-- The exponentials of the scores less the largest. -/
def powers (s : FVec Ideal S2x2x4x8192x8448 .f32) : FVec Ideal S2x2x4x8192x8448 .f32 := Host.exp (subf s (spread (largest s)))

/-- The weights: the exponentials over their sum. -/
def weights (p : FVec Ideal S2x2x4x8192x8448 .f32) : FVec Ideal S2x2x4x8192x8448 .f32 :=
  Host.divf p (spread (Host.reduceAdd p (constant S_ .f32 0x00000000#32) reducesTo_S2x2x4x8192x8448_S2x2x4x8192_d4 h_S_))

/-- The averages, heads side by side. -/
def averages (v : FVec Ideal S2x8448x2x64 .f32) (w : FVec Ideal S2x2x4x8192x8448 .f32) : FVec Ideal S2x8192x512 .bf16 :=
  truncf .bf16 (shapeCast _ (transpose S2x8192x2x4x64 [0, 4, 1, 3, 2]
    (Host.dotGeneral dot_S2x8448x2x64_S2x2x4x8192x8448_S2x2x64x4x8192_1_4_3_23_02_01 none v w)
    transposes_S2x2x64x4x8192_S2x8192x2x4x64_0_4_1_3_2) shapeCasts_S2x8192x2x4x64_S2x8192x512) bitsLt_bf16_f32

/-- Head `u` of group `g`. -/
def headIn (g : Fin 2) (u : Fin 4) : Fin 8 := ⟨g.val * 4 + u.val, by have := g.isLt; have := u.isLt; omega⟩

/-- A score over eight, of real queries and keys. -/
theorem scores_eq (q : SQ.Idx → ℝ) (k : SK.Idx → ℝ) (b g : Fin 2) (u : Fin 4) (r : Fin 8192) (j : Fin 8448) :
    scores (fun i => (q i : EReal)) (fun i => (k i : EReal)) (ix5 b g u r j) = ((score q k b r (headIn g u) j * (1 / 8) : ℝ) : EReal) := by
  have hg : groupOf (headIn g u) = g := Fin.ext (show (g.val * 4 + u.val) / 4 = g.val by have := u.isLt; omega)
  unfold scores
  pointwise [ofBits_eighth]
  rw [EReal.coe_mul]
  refine congrArg (· * _) ?_
  unfold score
  rw [hg, ← sum_real]
  exact Finset.sum_congr rfl fun d _ => (EReal.coe_mul _ _).symm

/-- The repeated number. -/
theorem spread_eq (x : FVec Ideal S2x2x4x8192 .f32) (b g : Fin 2) (u : Fin 4) (r : Fin 8192) (j : Fin 8448) :
    spread x (ix5 b g u r j) = x (ix4 b g u r) := by
  unfold spread
  pointwise

/-- Minus infinity bounds nothing. -/
theorem capped_eq (x : FVec Ideal S2x2x4x8192 .f32) (b g : Fin 2) (u : Fin 4) (r : Fin 8192) :
    capped x (ix4 b g u r) = x (ix4 b g u r) := by
  unfold capped
  pointwise [ofBits_neg_inf]
  exact max_eq_right bot_le

/-- The largest of real numbers is real. -/
theorem reduce_max_real {s w t : Shape} {axes : List (Fin s.rank)} (x : FVec Ideal s .f32) (σ : s.Idx → ℝ)
    (hx : ∀ i, x i = (σ i : EReal)) (z : FVec Ideal w .f32) (h : s.ReducesTo axes t) (hw : 0 < w.numel) (j : t.Idx)
    (hz : z (Shape.Idx.first hw) = (⊥ : EReal)) (i : s.Idx) (hi : h.drop i = j) :
    ∃ M : ℝ, Host.reduce FloatOps.maximumf x z h hw j = (M : EReal) := by
  rw [Host.reduce_eq_fold, hz]
  exact exists_fold_max_real _ ⟨i, Finset.mem_filter.2 ⟨Finset.mem_univ _, hi⟩⟩ x σ hx

/-- Each query's largest score is real where all scores are. -/
theorem largest_real (s : FVec Ideal S2x2x4x8192x8448 .f32) (σ : S2x2x4x8192x8448.Idx → ℝ) (hs : ∀ i, s i = (σ i : EReal))
    (b g : Fin 2) (u : Fin 4) (r : Fin 8192) : ∃ M : ℝ, largest s (ix4 b g u r) = (M : EReal) := by
  unfold largest
  rw [capped_eq]
  refine reduce_max_real s σ hs _ _ _ _ ofBits_neg_inf (ix5 b g u r 0) ?_
  funext a
  refine Fin.ext ?_
  fin_cases a
  · exact Shape.ReducesTo.drop_apply_val_of_eq reducesTo_S2x2x4x8192x8448_S2x2x4x8192_d4 (ix5 b g u r 0) 0 0
  · exact Shape.ReducesTo.drop_apply_val_of_eq reducesTo_S2x2x4x8192x8448_S2x2x4x8192_d4 (ix5 b g u r 0) 1 1
  · exact Shape.ReducesTo.drop_apply_val_of_eq reducesTo_S2x2x4x8192x8448_S2x2x4x8192_d4 (ix5 b g u r 0) 2 2
  · exact Shape.ReducesTo.drop_apply_val_of_eq reducesTo_S2x2x4x8192x8448_S2x2x4x8192_d4 (ix5 b g u r 0) 3 3

/-- An exponential, at an index. -/
theorem powers_eq (s : FVec Ideal S2x2x4x8192x8448 .f32) (b g : Fin 2) (u : Fin 4) (r : Fin 8192) (j : Fin 8448) :
    powers s (ix5 b g u r j) = Ideal.exp (s (ix5 b g u r j) - largest s (ix4 b g u r)) := by
  unfold powers
  pointwise [spread_eq]

/-- A weight, at an index. -/
theorem weights_eq (p : FVec Ideal S2x2x4x8192x8448 .f32) (b g : Fin 2) (u : Fin 4) (r : Fin 8192) (j : Fin 8448) :
    weights p (ix5 b g u r j) = Ideal.div (p (ix5 b g u r j)) (∑ j', p (ix5 b g u r j')) := by
  unfold weights
  pointwise [spread_eq]

/-- An average, at an index: the sum over the keys. -/
theorem averages_eq (v : FVec Ideal S2x8448x2x64 .f32) (w : FVec Ideal S2x2x4x8192x8448 .f32) (b : Fin 2) (r : Fin 8192) (e : Fin 512) :
    averages v w (ix3 b r e) = ∑ j : Fin 8448, v (ix4 b j ⟨e.val / 256, by have := e.isLt; omega⟩ ⟨e.val % 64, Nat.mod_lt _ (by decide)⟩)
      * w (ix5 b ⟨e.val / 256, by have := e.isLt; omega⟩ ⟨e.val / 64 % 4, Nat.mod_lt _ (by decide)⟩ r j) := by
  unfold averages
  pointwise

/-- The reference's result, of real queries and keys. -/
theorem result_eq (q : SQ.Idx → ℝ) (k : SK.Idx → ℝ) (v : FVec Ideal S2x8448x2x64 .f32) (b : Fin 2) (r : Fin 8192) (e : Fin 512) :
    averages v (weights (powers (scores (fun i => (q i : EReal)) (fun i => (k i : EReal))))) (ix3 b r e) = attn q k v b r e := by
  have he := e.isLt
  have hG : groupOf (colHead e) = ⟨e.val / 256, by omega⟩ := Fin.ext (show e.val / 64 / 4 = e.val / 256 by omega)
  have hH : headIn ⟨e.val / 256, by omega⟩ ⟨e.val / 64 % 4, Nat.mod_lt _ (by decide)⟩ = colHead e :=
    Fin.ext (show e.val / 256 * 4 + e.val / 64 % 4 = e.val / 64 by omega)
  generalize hs : scores (fun i => (q i : EReal)) (fun i => (k i : EReal)) = s
  have hsc : ∀ b g u r j, s (ix5 b g u r j) = ((score q k b r (headIn g u) j * (1 / 8) : ℝ) : EReal) := fun b g u r j => by
    rw [← hs, scores_eq]
  obtain ⟨M, hM⟩ := largest_real s (fun i => score q k (i 0) (i 3) (headIn (i 1) (i 2)) (i 4) * (1 / 8))
    (fun i => (congrArg s (eq_ix5 i)).trans (hsc _ _ _ _ _)) b ⟨e.val / 256, by omega⟩ ⟨e.val / 64 % 4, Nat.mod_lt _ (by decide)⟩ r
  rw [averages_eq]
  simp only [weights_eq, powers_eq, hM, hsc, exp_sub_real, hH]
  rw [average_base_e]
  unfold attn
  rw [hG]
  rfl

/-- The same, as an array. -/
theorem result_array (q : SQ.Idx → ℝ) (k : SK.Idx → ℝ) (x : FVec Ideal S2x8192x8x64 .f32) (y v : FVec Ideal S2x8448x2x64 .f32)
    (hx : x = fun i => (q i : EReal)) (hy : y = fun i => (k i : EReal)) :
    averages v (weights (powers (scores x y))) = fun i => attn q k v (i 0) (i 1) (i 2) := by
  subst hx hy
  funext i
  exact (congrArg _ (eq_ix3 i)).trans (result_eq q k v (i 0) (i 1) (i 2))

end Cert.ReferenceIdeal.Attn

end
-- ==== Proof.Swiglu.lean ====
/-
  The gated feed-forward map of one row: the second product passes where the sigmoid of the first lets it, and a third product follows.
-/
module

public import Idealize.ShloMosaic.Lib.Pointwise
public import Idealize.ShloMosaic.Lib.Pipeline.ValueKit

@[expose] public section

noncomputable section

namespace Cert.Swiglu

open Idealize.ShloMosaic

/-- A number times its sigmoid. -/
def swish (x : EReal) : EReal := x * Ideal.div 1 (1 + Ideal.exp (-x))

/-- The hidden coordinate `j` of a row `x`. -/
def hidden (x : Fin 1024 → EReal) (wg wu : Fin 1024 → Fin 2816 → EReal) (j : Fin 2816) : EReal :=
  swish (∑ d, x d * wg d j) * ∑ d, x d * wu d j

/-- The output coordinate `e` of a row `x`. -/
def swiglu (x : Fin 1024 → EReal) (wg wu : Fin 1024 → Fin 2816 → EReal) (wd : Fin 2816 → Fin 1024 → EReal) (e : Fin 1024) : EReal :=
  ∑ j, hidden x wg wu j * wd j e

/-- The rows, by sequence, row and coordinate. -/
abbrev SRows : Shape := ⟨3, ![2, 8448, 1024]⟩

/-- The feed-forward step of a row added to the residual row, through the gate of the row: the shared one for the first 256 rows of a
sequence, the sequence's own for the others. -/
def feedForward (f h : SRows.Idx → EReal) (mc : Shape.Idx ⟨2, ![6, 1024]⟩ → EReal) (ml : Shape.Idx ⟨3, ![2, 6, 1024]⟩ → EReal)
    (wg wu : Shape.Idx ⟨2, ![1024, 2816]⟩ → EReal) (wd : Shape.Idx ⟨2, ![2816, 1024]⟩ → EReal) : SRows.Idx → EReal := fun i =>
  h (ix3 (i 0) (i 1) (i 2)) + (if (i 1).val < 256 then mc (ix2 5 (i 2)) else ml (ix3 (i 0) 5 (i 2)))
    * swiglu (fun d => f (ix3 (i 0) (i 1) d)) (fun d j => wg (ix2 d j)) (fun d j => wu (ix2 d j)) (fun j e => wd (ix2 j e)) (i 2)

end Cert.Swiglu

end
-- ==== Proof.FeedForward.Output.lean ====
/-
  The feed-forward call's result array, index by index.
-/
module

public import proofs.«01_k».proof.Proof.Swiglu
public import proofs.«01_k».proof.Proof.Gen.FeedForwardIdeal.Value
public import Idealize.ShloMosaic.Lib.Pipeline.ValueKit
public import Idealize.ShloMosaic.Lib.Pointwise

@[expose] public section

set_option maxRecDepth 16384

noncomputable section

namespace Cert.FeedForwardIdeal.Out

open Cert.FeedForwardIdeal Cert.FeedForwardIdeal.Gen Idealize.ShloMosaic Idealize.ShloMosaic.TcCoe Idealize.SL.Sem
open Cert.Swiglu

variable (m : (ℓ : Loc nD τ sig) → Buf (Elt Ideal) ℓ) (c : Dev nD)

/-- Each window's block of its array at a grid point. -/
theorem idx : ∀ t : Fin grid0.N,
    win0_0.index t = ![t.val / 22, t.val % 22, 0]
    ∧ win0_1.index t = ![t.val / 22, t.val % 22, 0]
    ∧ win0_2.index t = ![0, 0]
    ∧ win0_3.index t = ![t.val / 22, 0, 0]
    ∧ win0_4.index t = ![0, 0] ∧ win0_5.index t = ![0, 0] ∧ win0_6.index t = ![0, 0]
    ∧ win0_7.index t = ![t.val / 22, t.val % 22, 0]
    ∧ (grid0.coords t 1).val = t.val % 22 := by decide +kernel

/-- The rows the program is given. -/
def fIn : Vec Ideal S2x8448x1024 .f32 := m ((c : Thread nD τ).loc main_arg0)
/-- The residual rows. -/
def hIn : Vec Ideal S2x8448x1024 .f32 := m ((c : Thread nD τ).loc main_arg1)
/-- The shared gates. -/
def sharedIn : Vec Ideal S6x1024 .f32 := m ((c : Thread nD τ).loc main_arg2)
/-- Each sequence's gates. -/
def ownIn : Vec Ideal S2x6x1024 .f32 := m ((c : Thread nD τ).loc main_arg3)
/-- The first weights. -/
def wgIn : Vec Ideal S1024x2816 .f32 := m ((c : Thread nD τ).loc main_arg4)
/-- The second weights. -/
def wuIn : Vec Ideal S1024x2816 .f32 := m ((c : Thread nD τ).loc main_arg5)
/-- The last weights. -/
def wdIn : Vec Ideal S2816x1024 .f32 := m ((c : Thread nD τ).loc main_arg6)

/-- The row's number within its sequence, below 256 or not. -/
theorem choose_row (k y : ℕ) (hk : k < 22) (hy : y < 384) (a b : EReal) :
    Scalar.select (IntOp.cmpi CmpIPredicate.slt (IntOp.addi (Scalar.muli (BitVec.ofNat 32 k) 384#32) (BitVec.ofNat 32 y)) 256#32) a b
      = if k * 384 + y < 256 then a else b := by
  have e : IntOp.addi (Scalar.muli (BitVec.ofNat 32 k) 384#32) (BitVec.ofNat 32 y) = BitVec.ofNat 32 (k * 384 + y) := by
    show BitVec.ofNat 32 k * 384#32 + BitVec.ofNat 32 y = _
    rw [BitVec.ofNat_add, BitVec.ofNat_mul]
  have h : (BitVec.ofNat 32 (k * 384 + y)).slt 256#32 = decide (k * 384 + y < 256) := by
    rw [BitVec.slt, BitVec.toInt_eq_toNat_cond, BitVec.toNat_ofNat, Nat.mod_eq_of_lt (by omega), if_pos (by omega)]
    show decide (((k * 384 + y : ℕ) : ℤ) < 256) = _
    exact decide_eq_decide.2 (by omega)
  rw [e]
  show Scalar.select (BitVec.ofBool ((BitVec.ofNat 32 (k * 384 + y)).slt 256#32)) a b = _
  rw [h]
  by_cases hc : k * 384 + y < 256
  · rw [if_pos hc, decide_eq_true hc]
    rfl
  · rw [if_neg hc, decide_eq_false hc]
    rfl

/-- The result array. -/
theorem array_eq : (dats m 0 c).arrAt 7 cfg0.N
    = feedForward (fIn m c) (hIn m c) (sharedIn m c) (ownIn m c) (wgIn m c) (wuIn m c) (wdIn m c) := by
  refine (dats m 0 c).arrAt_eq_of_covers 7 _ (by decide +kernel) fun t hf y => ?_
  obtain ⟨h0, h1, h2, h3, h4, h5, h6, h7, h8⟩ := idx t
  have ht : t.val < 44 := t.isLt.trans_eq N_0
  blk_simp
  rw [after0_7]
  frame_out
  idx_vars y
  have hy := y1.isLt
  have he : (win0_7.blk t).view.emb (ix3 y0 y1 y2) = ix3 ⟨t.val / 22, by omega⟩ ⟨t.val % 22 * 384 + y1.val, by omega⟩ y2 := by
    blk_ext [h7]
  rw [he]
  unfold_payloads
  pointwise
  rw [h8, choose_row _ _ (Nat.mod_lt _ (by decide)) hy]
  have b0 : ∀ d : Fin 1024, iblk m c 0 t (ix3 0 y1 d) = fIn m c (ix3 ⟨t.val / 22, by omega⟩ ⟨t.val % 22 * 384 + y1.val, by omega⟩ d) := fun d => by
    blk_ext [iblk, V, fIn, h0]
  have b1 : iblk m c 1 t (ix3 0 y1 y2) = hIn m c (ix3 ⟨t.val / 22, by omega⟩ ⟨t.val % 22 * 384 + y1.val, by omega⟩ y2) := by
    blk_ext [iblk, V, hIn, h1]
  have b2 : iblk m c 2 t (ix2 5 y2) = sharedIn m c (ix2 5 y2) := by blk_ext [iblk, V, sharedIn, h2]
  have b3 : iblk m c 3 t (ix3 0 5 y2) = ownIn m c (ix3 ⟨t.val / 22, by omega⟩ 5 y2) := by blk_ext [iblk, V, ownIn, h3]
  have b4 : ∀ d j, iblk m c 4 t (ix2 d j) = wgIn m c (ix2 d j) := fun d j => by blk_ext [iblk, V, wgIn, h4]
  have b5 : ∀ d j, iblk m c 5 t (ix2 d j) = wuIn m c (ix2 d j) := fun d j => by blk_ext [iblk, V, wuIn, h5]
  have b6 : ∀ j, iblk m c 6 t (ix2 j y2) = wdIn m c (ix2 j y2) := fun j => by blk_ext [iblk, V, wdIn, h6]
  simp only [b0, b1, b2, b3, b4, b5, b6]
  rfl

end Cert.FeedForwardIdeal.Out

end
-- ==== Proof.FeedForward.Reference.lean ====
/-
  The feed-forward reference's result, index by index.
-/
module

public import proofs.«01_k».proof.Proof.Swiglu
public import proofs.«01_k».proof.Proof.Gen.FeedForwardReferenceIdeal.Run
public import Idealize.ShloMosaic.Lib.Pipeline.ValueKit

@[expose] public section

set_option maxRecDepth 16384

noncomputable section

namespace Cert.FeedForwardReferenceIdeal.Out

open Cert.FeedForwardReferenceIdeal Cert.FeedForwardReferenceIdeal.Gen Idealize.ShloMosaic Idealize.ShloMosaic.TcCoe Idealize.SL.Sem
open Cert.Swiglu

/-- The first product, all rows at once. -/
def product (f : FVec Ideal S2x8448x1024 .f32) (w : FVec Ideal S1024x2816 .f32) : FVec Ideal S2x8448x2816 .f32 :=
  Host.dotGeneral dot_S2x8448x1024_S1024x2816_S2x8448x2816_2_0_01_1_n_n none f w

/-- The hidden rows: a product times its sigmoid times the other product. -/
def hiddens (g u : FVec Ideal S2x8448x2816 .f32) : FVec Ideal S2x8448x2816 .f32 :=
  mulf (mulf g (Host.divf (broadcastInDim S2x8448x2816 ![] bcast_S_S2x8448x2816 (constant S_ .f32 0x3F800000#32))
    (addf (broadcastInDim S2x8448x2816 ![] bcast_S_S2x8448x2816 (constant S_ .f32 0x3F800000#32)) (Host.exp (Host.negf g))))) u

/-- The last product. -/
def lowered (x : FVec Ideal S2x8448x2816 .f32) (w : FVec Ideal S2816x1024 .f32) : FVec Ideal S2x8448x1024 .f32 :=
  Host.dotGeneral dot_S2x8448x2816_S2816x1024_S2x8448x1024_2_0_01_1_n_n none x w

/-- The gated rows added to the residual ones: one gate for the first 256 rows of a sequence, a gate of its sequence for the others. -/
def gated (h : FVec Ideal S2x8448x1024 .f32) (mc : FVec Ideal S6x1024 .f32) (ml : FVec Ideal S2x6x1024 .f32)
    (y : FVec Ideal S2x8448x1024 .f32) : FVec Ideal S2x8448x1024 .f32 :=
  concatenate S2x8448x1024 1 [⟨S2x256x1024, (addf (extractStridedSlice S2x256x1024 ![0, 0, 0] h slices_S2x8448x1024_S2x256x1024_0_0_0)
    (mulf (broadcastInDim S2x256x1024 ![0, 1, 2] bcast_S1x1x1024_S2x256x1024_0_1_2 (broadcastInDim S1x1x1024 ![1, 2] bcast_S1x1024_S1x1x1024_1_2
        (extractStridedSlice S1x1024 ![5, 0] mc slices_S6x1024_S1x1024_5_0)))
      (extractStridedSlice S2x256x1024 ![0, 0, 0] y slices_S2x8448x1024_S2x256x1024_0_0_0)))⟩,
    ⟨S2x8192x1024, (addf (extractStridedSlice S2x8192x1024 ![0, 256, 0] h slices_S2x8448x1024_S2x8192x1024_0_256_0)
      (mulf (broadcastInDim S2x8192x1024 ![0, 1, 2] bcast_S2x1x1024_S2x8192x1024_0_1_2
          (extractStridedSlice S2x1x1024 ![0, 5, 0] ml slices_S2x6x1024_S2x1x1024_0_5_0))
        (extractStridedSlice S2x8192x1024 ![0, 256, 0] y slices_S2x8448x1024_S2x8192x1024_0_256_0)))⟩]
    concatenates_S2x256x1024_S2x8192x1024_S2x8448x1024_d1

/-- The first product at an index. -/
theorem product_eq (f : FVec Ideal S2x8448x1024 .f32) (w : FVec Ideal S1024x2816 .f32) (b : Fin 2) (r : Fin 8448) (j : Fin 2816) :
    product f w (ix3 b r j) = ∑ d : Fin 1024, f (ix3 b r d) * w (ix2 d j) := by
  unfold product
  pointwise

/-- A hidden coordinate at an index. -/
theorem hiddens_eq (g u : FVec Ideal S2x8448x2816 .f32) (b : Fin 2) (r : Fin 8448) (j : Fin 2816) :
    hiddens g u (ix3 b r j) = swish (g (ix3 b r j)) * u (ix3 b r j) := by
  unfold hiddens swish
  pointwise

/-- The last product at an index. -/
theorem lowered_eq (x : FVec Ideal S2x8448x2816 .f32) (w : FVec Ideal S2816x1024 .f32) (b : Fin 2) (r : Fin 8448) (e : Fin 1024) :
    lowered x w (ix3 b r e) = ∑ j : Fin 2816, x (ix3 b r j) * w (ix2 j e) := by
  unfold lowered
  pointwise

/-- A gated row at an index. -/
theorem gated_eq (h : FVec Ideal S2x8448x1024 .f32) (mc : FVec Ideal S6x1024 .f32) (ml : FVec Ideal S2x6x1024 .f32)
    (y : FVec Ideal S2x8448x1024 .f32) (b : Fin 2) (r : Fin 8448) (e : Fin 1024) :
    gated h mc ml y (ix3 b r e)
      = h (ix3 b r e) + (if r.val < 256 then mc (ix2 5 e) else ml (ix3 b 5 e)) * y (ix3 b r e) := by
  unfold gated
  have := r.isLt
  by_cases hr : r.val < 256
  · rw [if_pos hr]
    pointwise
    rw [dif_pos hr]
  · rw [if_neg hr]
    pointwise
    have hx : (⟨256 + (r.val - 256), by omega⟩ : Fin 8448) = r := Fin.ext (by dsimp only; omega)
    rw [dif_neg hr, hx]

/-- The reference's result, at an index. -/
theorem result_eq (f h : FVec Ideal S2x8448x1024 .f32) (mc : FVec Ideal S6x1024 .f32) (ml : FVec Ideal S2x6x1024 .f32)
    (wg wu : FVec Ideal S1024x2816 .f32) (wd : FVec Ideal S2816x1024 .f32) (b : Fin 2) (r : Fin 8448) (e : Fin 1024) :
    gated h mc ml (lowered (hiddens (product f wg) (product f wu)) wd) (ix3 b r e) = feedForward f h mc ml wg wu wd (ix3 b r e) := by
  rw [gated_eq, lowered_eq]
  simp only [hiddens_eq, product_eq]
  rfl

/-- The reference's result. -/
theorem result_array (f h : FVec Ideal S2x8448x1024 .f32) (mc : FVec Ideal S6x1024 .f32) (ml : FVec Ideal S2x6x1024 .f32)
    (wg wu : FVec Ideal S1024x2816 .f32) (wd : FVec Ideal S2816x1024 .f32) :
    gated h mc ml (lowered (hiddens (product f wg) (product f wu)) wd) = feedForward f h mc ml wg wu wd := by
  funext i
  exact (congrArg _ (eq_ix3 i)).trans ((result_eq f h mc ml wg wu wd (i 0) (i 1) (i 2)).trans (congrArg _ (eq_ix3 i).symm))

end Cert.FeedForwardReferenceIdeal.Out

end
-- ==== Proof.Projection.Setup.lean ====
/-
  The projection's kernel at a grid point: when each of its five branches is taken, the memory it is passed, and what its steps
  compute. It keeps two buffers of prepared rows: the product reads one while the next tile's rows go into the other.
-/
module

public import proofs.«01_k».proof.Proof.Gen.ProjectionIdeal.Frame
public import proofs.«01_k».proof.Proof.Gen.ProjectionIdeal.Skeleton
public import Idealize.ShloMosaic.Lib.Pipeline.ValueKit
public import Idealize.ShloMosaic.Lib.VecWindow

@[expose] public section

set_option maxRecDepth 16384

noncomputable section

namespace Cert.ProjectionIdeal.Run

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a sequence. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The branches taken at a point: its position within its sequence decides them. -/
theorem branches : ∀ t : Fin cfg0.N,
    (isFirst (grid0.coords t) ↔ t.val % 22 = 0)
    ∧ (k0_cond2 (grid0.coords t) = 1#1 ↔ t.val % 22 % 4 = 0)
    ∧ (k0_cond3 (grid0.coords t) = 1#1 ↔ t.val % 22 % 4 = 1)
    ∧ (k0_cond4 (grid0.coords t) = 1#1 ↔ t.val % 22 % 4 = 2)
    ∧ (k0_cond5 (grid0.coords t) = 1#1 ↔ t.val % 22 % 4 = 3) :=
  (by decide +kernel : ∀ t : Fin grid0.N,
    (isFirst (grid0.coords t) ↔ t.val % 22 = 0)
    ∧ (k0_cond2 (grid0.coords t) = 1#1 ↔ t.val % 22 % 4 = 0)
    ∧ (k0_cond3 (grid0.coords t) = 1#1 ↔ t.val % 22 % 4 = 1)
    ∧ (k0_cond4 (grid0.coords t) = 1#1 ↔ t.val % 22 % 4 = 2)
    ∧ (k0_cond5 (grid0.coords t) = 1#1 ↔ t.val % 22 % 4 = 3))

/-- The result's window is in use at every point. -/
theorem live_out : ∀ t : Fin cfg0.N, cfg0.idle 5 (grid0.coords t) = false :=
  (by decide +kernel : ∀ t : Fin grid0.N, cfg0.idle 5 (grid0.coords t) = false)

/-! The memory the body is passed at a point. -/

/-- The rows. -/
abbrev memH (t : Fin cfg0.N) : Memref sig .tc .vmem S1x768x1024 .f32 := win0_0.stage (cfg0.slots t 0)
theorem wholeH (t : Fin cfg0.N) : (memH t).IsWhole := hstage0_0 ((cfg0.slots t 0).cast nbuf0_0)
/-- The shared shifts and scales. -/
abbrev memS (t : Fin cfg0.N) : Memref sig .tc .vmem S6x1024 .f32 := win0_1.stage (cfg0.slots t 1)
theorem wholeS (t : Fin cfg0.N) : (memS t).IsWhole := hstage0_1 ((cfg0.slots t 1).cast nbuf0_1)
/-- The sequence's own shifts and scales. -/
abbrev memL (t : Fin cfg0.N) : Memref sig .tc .vmem S1x6x1024 .f32 := win0_2.stage (cfg0.slots t 2)
theorem wholeL (t : Fin cfg0.N) : (memL t).IsWhole := hstage0_2 ((cfg0.slots t 2).cast nbuf0_2)
/-- The normalization's weights. -/
abbrev memG (t : Fin cfg0.N) : Memref sig .tc .vmem S1x1024 .f32 := win0_3.stage (cfg0.slots t 3)
theorem wholeG (t : Fin cfg0.N) : (memG t).IsWhole := hstage0_3 ((cfg0.slots t 3).cast nbuf0_3)
/-- The projection's weights. -/
abbrev memW (t : Fin cfg0.N) : Memref sig .tc .vmem S1x1024x3328 .bf16 := win0_4.stage (cfg0.slots t 4)
theorem wholeW (t : Fin cfg0.N) : (memW t).IsWhole := hstage0_4 ((cfg0.slots t 4).cast nbuf0_4)
/-- The result's tile. -/
abbrev memY (t : Fin cfg0.N) : Memref sig .tc .vmem S1x768x3328 .bf16 := win0_5.stage (cfg0.slots t 5)
theorem wholeY (t : Fin cfg0.N) : (memY t).IsWhole := hstage0_5 ((cfg0.slots t 5).cast nbuf0_5)
/-- The prepared rows of the even tiles, and of the odd ones. -/
abbrev evenRows : Memref sig .tc .vmem S768x1024 .bf16 := Memref.whole cc0_scratch0
abbrev oddRows : Memref sig .tc .vmem S768x1024 .bf16 := Memref.whole cc0_scratch1

/-- What the launch hands the body besides its windows: the two buffers of rows at any contents, and the generator's register. -/
theorem launched (c : Dev nD) :
    (Pipeline.ΦA spec0 c : sProp 𝕄)
      = iprop(iprop((∃ d, owns (c : Thread nD τ) evenRows fullShare d) ∗ (∃ d, owns (c : Thread nD τ) oddRows fullShare d)) ∗ (∃ r, prngReg c r)) := by
  unfold Pipeline.ΦA; rw [scopedRest0_eq]; simp only [evenRows, oddRows, owns_whole]; try rfl

/-- The rows of a sequence's first tile, normalized, scaled and shifted. -/
def firstRows (x0 : Vec F S1x768x1024 .f32) (x1 : Vec F S6x1024 .f32) (x2 : Vec F S1x6x1024 .f32) (x3 : Vec F S1x1024 .f32) :
    Vec F S768x1024 .bf16 :=
  k0_pay22 (k0_pay5 x1 x2) (k0_pay6 x1 x2) (k0_pay7 x0) (k0_pay8 x3) (k0_pay9 x0)

/-- The rows of the tile after tile `a`, normalized, scaled and shifted. -/
def nextRows (a : BitVec 32) (x0 : Vec F S1x768x1024 .f32) (x1 : Vec F S6x1024 .f32) (x2 : Vec F S1x6x1024 .f32) (x3 : Vec F S1x1024 .f32) :
    Vec F S768x1024 .bf16 :=
  k0_pay1 (k0_pay12 a x1 x2) (k0_pay13 a) (k0_pay14 x1) (k0_pay15 x2) x0 x3

/-- The product of the prepared rows with a block of the weights. -/
def product (rows : Vec F S768x1024 .bf16) (w : Vec F S1x1024x3328 .bf16) : Vec F S1x768x3328 .bf16 := k0_pay2 rows w

/-- One store over a whole buffer leaves what was stored. -/
theorem stored_whole {s : Shape} {e : EltTy} (M : Memref sig .tc .vmem s e) (f : M.view.ty.Contents (Elt F)) {off : Fin s.rank → Nat}
    (inb : ∀ a, off a + s.size a ≤ s.size a) (w : s.Idx → Elt F e) (h : off = fun _ => 0) :
    M.view.read (Elt F) (M.view.writes (Elt F) f [⟨Rect.unit off s.size inb, w⟩]) = w := by
  subst h
  exact View.read_writes_whole _ _ _

/-- A load of a whole buffer reads its contents. -/
theorem load_whole {s : Shape} {e : EltTy} (M : Memref sig .tc .vmem s e) (hM : M.IsWhole) (x : s.Idx → Elt F e) {off : Fin s.rank → Nat}
    (inb : ∀ a, off a + s.size a ≤ s.size a) :
    M.view.readAt (Elt F) (Rect.unit off (no_index s.size) inb).toLoadRect (hM.unread x) = x :=
  (View.readAt_full M.view (hM.unread x) inb).trans (hM.read_unread x)

end Cert.ProjectionIdeal.Run

end
-- ==== Proof.Projection.Keep.lean ====
/-
  The projection's body where it only multiplies: the prepared rows of the tile by the first half of the weights.
-/
module

public import proofs.«01_k».proof.Proof.Projection.Setup

@[expose] public section

set_option maxRecDepth 16384

noncomputable section

namespace Cert.ProjectionIdeal.Run

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an odd tile. -/
theorem keep_odd (c : Dev nD) (i : grid0.Coords) (arg3 : Memref sig .tc .vmem S1x768x1024 .f32) (harg3 : arg3.IsWhole)
    (arg4 : Memref sig .tc .vmem S6x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x3328 .bf16) (harg7 : arg7.IsWhole)
    (arg8 : Memref sig .tc .vmem S1x768x3328 .bf16) (harg8 : arg8.IsWhole) (arg9 : Memref sig .tc .vmem S768x1024 .bf16) (harg9 : arg9.IsWhole)
    (arg10 : Memref sig .tc .vmem S768x1024 .bf16) (harg10 : arg10.IsWhole)
    (hc0 : ¬isFirst i) (hc1 : ¬k0_cond2 i = 1#1) (hc2 : ¬k0_cond3 i = 1#1) (hc3 : k0_cond4 i = 1#1) (hc4 : ¬k0_cond5 i = 1#1)
    (x4 : Vec F S1x1024x3328 .bf16) (xs : Vec F S768x1024 .bf16) (E : Set ℕ) (K : PUnit → sProp 𝕄) :
    iprop(owns (c : Thread nD τ) arg7 fullShare x4 ∗ (∃ d, owns (c : Thread nD τ) arg8 fullShare d) ∗ owns (c : Thread nD τ) arg10 fullShare xs
        ∗ (iprop(owns (c : Thread nD τ) arg7 fullShare x4 ∗ owns (c : Thread nD τ) arg8 fullShare (product xs x4) ∗ owns (c : Thread nD τ) arg10 fullShare xs) -∗ K ⟨⟩))
      ⊢ wp frame (wpE (defs₀ (F := F)) Variants.none c none) E (cc0_in_proj i arg3 harg3 arg4 harg4 arg5 harg5 arg6 harg6 arg7 harg7 arg8 harg8 arg9 harg9 arg10 harg10) K := by
  simp only [cc0_in_proj_eq_skeleton]; unfold cc0_in_proj_skel
  simp only [k0_part4_eq_skeleton]
  unfold owns
  iintro ⟨⟨%f7, %hf7, H7⟩, ⟨%d8, %f8, -, H8⟩, ⟨%f10, %hf10, H10⟩, Hk⟩
  obtain rfl := harg7.eq_unread hf7; obtain rfl := harg10.eq_unread hf10
  sl_exec (disch := first | sl_exact hc0 | sl_exact hc1 | sl_exact hc2 | sl_exact hc3 | sl_exact hc4)
  sl_step
  iapply Hk
  isplitl [H7]
  · iexists _; isplitr; · ipureintro; exact harg7.read_unread _
    iexact H7
  isplitl [H8]
  · iexists _; isplitr
    swap; · iexact H8
    ipureintro
    refine (stored_whole _ _ _ _ (by decide)).trans ?_
    simp (disch := decide) only [load_whole, View.readCov_cons_toLoadRect]
    rfl
  iexists _; isplitr; · ipureintro; exact harg10.read_unread _
  iexact H10

set_option maxHeartbeats 1000000 in
/-- At an even tile that is not the first. -/
theorem keep_even (c : Dev nD) (i : grid0.Coords) (arg3 : Memref sig .tc .vmem S1x768x1024 .f32) (harg3 : arg3.IsWhole)
    (arg4 : Memref sig .tc .vmem S6x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x3328 .bf16) (harg7 : arg7.IsWhole)
    (arg8 : Memref sig .tc .vmem S1x768x3328 .bf16) (harg8 : arg8.IsWhole) (arg9 : Memref sig .tc .vmem S768x1024 .bf16) (harg9 : arg9.IsWhole)
    (arg10 : Memref sig .tc .vmem S768x1024 .bf16) (harg10 : arg10.IsWhole)
    (hc0 : ¬isFirst i) (hc1 : k0_cond2 i = 1#1) (hc2 : ¬k0_cond3 i = 1#1) (hc3 : ¬k0_cond4 i = 1#1) (hc4 : ¬k0_cond5 i = 1#1)
    (x4 : Vec F S1x1024x3328 .bf16) (xs : Vec F S768x1024 .bf16) (E : Set ℕ) (K : PUnit → sProp 𝕄) :
    iprop(owns (c : Thread nD τ) arg7 fullShare x4 ∗ (∃ d, owns (c : Thread nD τ) arg8 fullShare d) ∗ owns (c : Thread nD τ) arg9 fullShare xs
        ∗ (iprop(owns (c : Thread nD τ) arg7 fullShare x4 ∗ owns (c : Thread nD τ) arg8 fullShare (product xs x4) ∗ owns (c : Thread nD τ) arg9 fullShare xs) -∗ K ⟨⟩))
      ⊢ wp frame (wpE (defs₀ (F := F)) Variants.none c none) E (cc0_in_proj i arg3 harg3 arg4 harg4 arg5 harg5 arg6 harg6 arg7 harg7 arg8 harg8 arg9 harg9 arg10 harg10) K := by
  simp only [cc0_in_proj_eq_skeleton]; unfold cc0_in_proj_skel
  simp only [k0_part4_eq_skeleton]
  unfold owns
  iintro ⟨⟨%f7, %hf7, H7⟩, ⟨%d8, %f8, -, H8⟩, ⟨%f9, %hf9, H9⟩, Hk⟩
  obtain rfl := harg7.eq_unread hf7; obtain rfl := harg9.eq_unread hf9
  sl_exec (disch := first | sl_exact hc0 | sl_exact hc1 | sl_exact hc2 | sl_exact hc3 | sl_exact hc4)
  sl_step
  iapply Hk
  isplitl [H7]
  · iexists _; isplitr; · ipureintro; exact harg7.read_unread _
    iexact H7
  isplitl [H8]
  · iexists _; isplitr
    swap; · iexact H8
    ipureintro
    refine (stored_whole _ _ _ _ (by decide)).trans ?_
    simp (disch := decide) only [load_whole, View.readCov_cons_toLoadRect]
    rfl
  iexists _; isplitr; · ipureintro; exact harg9.read_unread _
  iexact H9

end Cert.ProjectionIdeal.Run

end
-- ==== Proof.Projection.First.lean ====
/-
  The projection's body at a sequence's first point: it prepares the first tile's rows and multiplies them.
-/
module

public import proofs.«01_k».proof.Proof.Projection.Keep

@[expose] public section

set_option maxRecDepth 16384

noncomputable section

namespace Cert.ProjectionIdeal.Run

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, whatever the two buffers hold. -/
theorem first (c : Dev nD) (i : grid0.Coords) (arg3 : Memref sig .tc .vmem S1x768x1024 .f32) (harg3 : arg3.IsWhole)
    (arg4 : Memref sig .tc .vmem S6x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x3328 .bf16) (harg7 : arg7.IsWhole)
    (arg8 : Memref sig .tc .vmem S1x768x3328 .bf16) (harg8 : arg8.IsWhole) (arg9 : Memref sig .tc .vmem S768x1024 .bf16) (harg9 : arg9.IsWhole)
    (arg10 : Memref sig .tc .vmem S768x1024 .bf16) (harg10 : arg10.IsWhole)
    (hc0 : isFirst i) (hc1 : k0_cond2 i = 1#1) (hc2 : ¬k0_cond3 i = 1#1) (hc3 : ¬k0_cond4 i = 1#1) (hc4 : ¬k0_cond5 i = 1#1)
    (x0 : Vec F S1x768x1024 .f32) (x1 : Vec F S6x1024 .f32) (x2 : Vec F S1x6x1024 .f32) (x3 : Vec F S1x1024 .f32) (x4 : Vec F S1x1024x3328 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (product (firstRows x0 x1 x2 x3) x4) ∗ owns (c : Thread nD τ) arg9 fullShare (firstRows x0 x1 x2 x3)) -∗ K ⟨⟩))
      ⊢ wp frame (wpE (defs₀ (F := F)) Variants.none c none) E (cc0_in_proj i arg3 harg3 arg4 harg4 arg5 harg5 arg6 harg6 arg7 harg7 arg8 harg8 arg9 harg9 arg10 harg10) K := by
  simp only [cc0_in_proj_eq_skeleton]; unfold cc0_in_proj_skel
  simp only [k0_part4_eq_skeleton, k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2 | sl_exact hc3 | sl_exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (stored_whole _ _ _ _ (by decide)).trans ?_
    try frame_open
    simp (disch := decide) only [load_whole, View.readCov_cons_toLoadRect]
    rfl
  iexists _; isplitr
  swap; · iexact H9
  ipureintro
  refine (stored_whole _ _ _ _ (by decide)).trans ?_
  try frame_open
  simp (disch := decide) only [load_whole, View.readCov_cons_toLoadRect]
  rfl

end Cert.ProjectionIdeal.Run

end
-- ==== Proof.Projection.Next.lean ====
/-
  The projection's body at a tile's last point: it multiplies the tile's rows and prepares the next tile's in the other buffer.
-/
module

public import proofs.«01_k».proof.Proof.Projection.First

@[expose] public section

set_option maxRecDepth 16384

noncomputable section

namespace Cert.ProjectionIdeal.Run

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an even tile. -/
theorem next_even (c : Dev nD) (i : grid0.Coords) (arg3 : Memref sig .tc .vmem S1x768x1024 .f32) (harg3 : arg3.IsWhole)
    (arg4 : Memref sig .tc .vmem S6x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x3328 .bf16) (harg7 : arg7.IsWhole)
    (arg8 : Memref sig .tc .vmem S1x768x3328 .bf16) (harg8 : arg8.IsWhole) (arg9 : Memref sig .tc .vmem S768x1024 .bf16) (harg9 : arg9.IsWhole)
    (arg10 : Memref sig .tc .vmem S768x1024 .bf16) (harg10 : arg10.IsWhole)
    (hc0 : ¬isFirst i) (hc1 : ¬k0_cond2 i = 1#1) (hc2 : k0_cond3 i = 1#1) (hc3 : ¬k0_cond4 i = 1#1) (hc4 : ¬k0_cond5 i = 1#1)
    (x0 : Vec F S1x768x1024 .f32) (x1 : Vec F S6x1024 .f32) (x2 : Vec F S1x6x1024 .f32) (x3 : Vec F S1x1024 .f32) (x4 : Vec F S1x1024x3328 .bf16) (xs : Vec F S768x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (product xs x4) ∗ owns (c : Thread nD τ) arg9 fullShare xs ∗ owns (c : Thread nD τ) arg10 fullShare (nextRows (BitVec.ofNat 32 (i 1).val) x0 x1 x2 x3)) -∗ K ⟨⟩))
      ⊢ wp frame (wpE (defs₀ (F := F)) Variants.none c none) E (cc0_in_proj i arg3 harg3 arg4 harg4 arg5 harg5 arg6 harg6 arg7 harg7 arg8 harg8 arg9 harg9 arg10 harg10) K := by
  simp only [cc0_in_proj_eq_skeleton]; unfold cc0_in_proj_skel
  simp only [k0_part4_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | sl_exact hc0 | sl_exact hc1 | sl_exact hc2 | sl_exact hc3 | sl_exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (stored_whole _ _ _ _ (by decide)).trans ?_
    try frame_open
    simp (disch := decide) only [load_whole, View.readCov_cons_toLoadRect]
    rfl
  isplitl [H9]
  · iexists _; isplitr; · ipureintro; exact harg9.read_unread _
    iexact H9
  iexists _; isplitr
  swap; · iexact H10
  ipureintro
  refine (stored_whole _ _ _ _ (by decide)).trans ?_
  try frame_open
  simp (disch := decide) only [load_whole, View.readCov_cons_toLoadRect]
  rfl

set_option maxHeartbeats 1000000 in
/-- At an odd tile. -/
theorem next_odd (c : Dev nD) (i : grid0.Coords) (arg3 : Memref sig .tc .vmem S1x768x1024 .f32) (harg3 : arg3.IsWhole)
    (arg4 : Memref sig .tc .vmem S6x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1x1024x3328 .bf16) (harg7 : arg7.IsWhole)
    (arg8 : Memref sig .tc .vmem S1x768x3328 .bf16) (harg8 : arg8.IsWhole) (arg9 : Memref sig .tc .vmem S768x1024 .bf16) (harg9 : arg9.IsWhole)
    (arg10 : Memref sig .tc .vmem S768x1024 .bf16) (harg10 : arg10.IsWhole)
    (hc0 : ¬isFirst i) (hc1 : ¬k0_cond2 i = 1#1) (hc2 : ¬k0_cond3 i = 1#1) (hc3 : ¬k0_cond4 i = 1#1) (hc4 : k0_cond5 i = 1#1)
    (x0 : Vec F S1x768x1024 .f32) (x1 : Vec F S6x1024 .f32) (x2 : Vec F S1x6x1024 .f32) (x3 : Vec F S1x1024 .f32) (x4 : Vec F S1x1024x3328 .bf16) (xs : Vec F S768x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (product xs x4) ∗ owns (c : Thread nD τ) arg9 fullShare (nextRows (BitVec.ofNat 32 (i 1).val) x0 x1 x2 x3) ∗ owns (c : Thread nD τ) arg10 fullShare xs) -∗ K ⟨⟩))
      ⊢ wp frame (wpE (defs₀ (F := F)) Variants.none c none) E (cc0_in_proj i arg3 harg3 arg4 harg4 arg5 harg5 arg6 harg6 arg7 harg7 arg8 harg8 arg9 harg9 arg10 harg10) K := by
  simp only [cc0_in_proj_eq_skeleton]; unfold cc0_in_proj_skel
  simp only [k0_part4_eq_skeleton, k0_part3_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg10.eq_unread hf10
  sl_exec (disch := first | sl_exact hc0 | sl_exact hc1 | sl_exact hc2 | sl_exact hc3 | sl_exact hc4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (stored_whole _ _ _ _ (by decide)).trans ?_
    try frame_open
    simp (disch := decide) only [load_whole, View.readCov_cons_toLoadRect]
    rfl
  isplitl [H9]
  · iexists _; isplitr
    swap; · iexact H9
    ipureintro
    refine (stored_whole _ _ _ _ (by decide)).trans ?_
    try frame_open
    simp (disch := decide) only [load_whole, View.readCov_cons_toLoadRect]
    rfl
  iexists _; isplitr; · ipureintro; exact harg10.read_unread _
  iexact H10

end Cert.ProjectionIdeal.Run

end
-- ==== Proof.Projection.Launch.lean ====
/-
  The projection's launch: what the two buffers of rows hold before each grid point, what each point leaves, and the run. Before a
  point that is not a sequence's first, the buffer of the point's tile holds that tile's prepared rows and the other is at any
  contents; before a sequence's first point both are.
-/
module

public import proofs.«01_k».proof.Proof.Projection.Next

@[expose] public section

set_option maxRecDepth 16384

noncomputable section

namespace Cert.ProjectionIdeal.Run

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a number. -/
def point (n : ℕ) : Fin cfg0.N := ⟨n % 44, (Nat.mod_lt n (by decide)).trans_eq N_0.symm⟩

theorem point_val (t : Fin cfg0.N) : point t.val = t :=
  Fin.ext (Nat.mod_eq_of_lt (t.isLt.trans_eq N_0))

/-- The prepared rows a point multiplies: its tile's, from the blocks of the point that prepared them. -/
def rowsAt (c : Dev nD) (n : ℕ) : Vec F S768x1024 .bf16 :=
  if n % 22 < 2 then
    firstRows (iblk m c 0 (point (n - n % 2))) (iblk m c 1 (point (n - n % 2))) (iblk m c 2 (point (n - n % 2))) (iblk m c 3 (point (n - n % 2)))
  else
    nextRows (BitVec.ofNat 32 (grid0.coords (point (n - 1 - n % 2)) 1).val) (iblk m c 0 (point (n - 1 - n % 2))) (iblk m c 1 (point (n - 1 - n % 2)))
      (iblk m c 2 (point (n - 1 - n % 2))) (iblk m c 3 (point (n - 1 - n % 2)))

/-- At a sequence's first point they are prepared there. -/
theorem rowsAt_first (c : Dev nD) (t : Fin cfg0.N) (h : t.val % 22 = 0) :
    rowsAt m c t.val = firstRows (iblk m c 0 t) (iblk m c 1 t) (iblk m c 2 t) (iblk m c 3 t) := by
  unfold rowsAt
  rw [if_pos (by omega), show t.val - t.val % 2 = t.val by omega, point_val]

/-- The second point of a tile multiplies the rows its first point did. -/
theorem rowsAt_keep (c : Dev nD) (n : ℕ) (h : n % 2 = 0) : rowsAt m c (n + 1) = rowsAt m c n := by
  unfold rowsAt
  rw [show n + 1 - (n + 1) % 2 = n - n % 2 by omega, show n + 1 - 1 - (n + 1) % 2 = n - 1 - n % 2 by omega]
  exact if_congr (by omega) rfl rfl

/-- A tile's second point prepares the rows of the next tile. -/
theorem rowsAt_next (c : Dev nD) (t : Fin cfg0.N) (h : t.val % 2 = 1) (h' : ¬(t.val + 1) % 22 = 0) :
    rowsAt m c (t.val + 1) = nextRows (BitVec.ofNat 32 (grid0.coords t 1).val) (iblk m c 0 t) (iblk m c 1 t) (iblk m c 2 t) (iblk m c 3 t) := by
  unfold rowsAt
  rw [if_neg (by omega), show t.val + 1 - 1 - (t.val + 1) % 2 = t.val by omega, point_val]

/-- The product a point leaves in the result's tile. -/
def resultAt (c : Dev nD) (t : Fin cfg0.N) : Vec F S1x768x3328 .bf16 := product (rowsAt m c t.val) (iblk m c 4 t)

/-- What the body holds besides its windows before point `n`. -/
def between (c : Dev nD) (n : ℕ) : sProp 𝕄 :=
  if n % 22 = 0 then Pipeline.ΦA spec0 c
  else if n % 22 % 4 < 2 then
    iprop(iprop(owns (c : Thread nD τ) evenRows fullShare (rowsAt m c n) ∗ (∃ d, owns (c : Thread nD τ) oddRows fullShare d)) ∗ (∃ r, prngReg c r))
  else
    iprop(iprop((∃ d, owns (c : Thread nD τ) evenRows fullShare d) ∗ owns (c : Thread nD τ) oddRows fullShare (rowsAt m c n)) ∗ (∃ r, prngReg c r))

theorem between_first (c : Dev nD) (n : ℕ) (h : n % 22 = 0) : between m c n = Pipeline.ΦA spec0 c := if_pos h

theorem between_even (c : Dev nD) (n : ℕ) (h : ¬n % 22 = 0) (h' : n % 22 % 4 < 2) : between m c n
    = iprop(iprop(owns (c : Thread nD τ) evenRows fullShare (rowsAt m c n) ∗ (∃ d, owns (c : Thread nD τ) oddRows fullShare d)) ∗ (∃ r, prngReg c r)) :=
  (if_neg h).trans (if_pos h')

theorem between_odd (c : Dev nD) (n : ℕ) (h : ¬n % 22 = 0) (h' : ¬n % 22 % 4 < 2) : between m c n
    = iprop(iprop((∃ d, owns (c : Thread nD τ) evenRows fullShare d) ∗ owns (c : Thread nD τ) oddRows fullShare (rowsAt m c n)) ∗ (∃ r, prngReg c r)) :=
  (if_neg h).trans (if_neg h')

/-- The launch's proof data: every array as the region finds it, each input's block left in place, the products in the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resultAt m c t
  Φ t := between m c t.val
  q _ := fullShare
  owed _ := 0

theorem A_eq (c : Dev nD) (w : Fin cfg0.W) : (dats m 0 c).A w = V m c (Pipeline.arrRef spec0 w) := by dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = resultAt m c t := by dsimp only [dats]

theorem given_0 (c : Dev nD) (t : Fin cfg0.N) (d) : (dats m 0 c).before 0 t d = iblk m c 0 t :=
  before0_0_of m (dats m 0 c) (A_eq m c 0) (left_0 m c) t d
theorem given_1 (c : Dev nD) (t : Fin cfg0.N) (d) : (dats m 0 c).before 1 t d = iblk m c 1 t :=
  before0_1_of m (dats m 0 c) (A_eq m c 1) (left_1 m c) t d
theorem given_2 (c : Dev nD) (t : Fin cfg0.N) (d) : (dats m 0 c).before 2 t d = iblk m c 2 t :=
  before0_2_of m (dats m 0 c) (A_eq m c 2) (left_2 m c) t d
theorem given_3 (c : Dev nD) (t : Fin cfg0.N) (d) : (dats m 0 c).before 3 t d = iblk m c 3 t :=
  before0_3_of m (dats m 0 c) (A_eq m c 3) (left_3 m c) t d
theorem given_4 (c : Dev nD) (t : Fin cfg0.N) (d) : (dats m 0 c).before 4 t d = iblk m c 4 t :=
  before0_4_of m (dats m 0 c) (A_eq m c 4) (left_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (memH t) fullShare ((dats m 0 c).before 0 t d))
    ∗ (∃ d, owns (c : Thread nD τ) (memS t) fullShare ((dats m 0 c).before 1 t d))
    ∗ (∃ d, owns (c : Thread nD τ) (memL t) fullShare ((dats m 0 c).before 2 t d))
    ∗ (∃ d, owns (c : Thread nD τ) (memG t) fullShare ((dats m 0 c).before 3 t d))
    ∗ (∃ d, owns (c : Thread nD τ) (memW t) fullShare ((dats m 0 c).before 4 t d))
    ∗ (∃ d, owns (c : Thread nD τ) (memY t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) :
    (dats m 0 c).leavesExact 0 t = owns (c : Thread nD τ) (memH t) fullShare (iblk m c 0 t) := by
  unfold Dat.leavesExact; rw [show cfg0.idle 0 (grid0.coords t) = false from rfl, left_0]
theorem leaves_1 (c : Dev nD) (t : Fin cfg0.N) :
    (dats m 0 c).leavesExact 1 t = owns (c : Thread nD τ) (memS t) fullShare (iblk m c 1 t) := by
  unfold Dat.leavesExact; rw [show cfg0.idle 1 (grid0.coords t) = false from rfl, left_1]
theorem leaves_2 (c : Dev nD) (t : Fin cfg0.N) :
    (dats m 0 c).leavesExact 2 t = owns (c : Thread nD τ) (memL t) fullShare (iblk m c 2 t) := by
  unfold Dat.leavesExact; rw [show cfg0.idle 2 (grid0.coords t) = false from rfl, left_2]
theorem leaves_3 (c : Dev nD) (t : Fin cfg0.N) :
    (dats m 0 c).leavesExact 3 t = owns (c : Thread nD τ) (memG t) fullShare (iblk m c 3 t) := by
  unfold Dat.leavesExact; rw [show cfg0.idle 3 (grid0.coords t) = false from rfl, left_3]
theorem leaves_4 (c : Dev nD) (t : Fin cfg0.N) :
    (dats m 0 c).leavesExact 4 t = owns (c : Thread nD τ) (memW t) fullShare (iblk m c 4 t) := by
  unfold Dat.leavesExact; rw [show cfg0.idle 4 (grid0.coords t) = false from rfl, left_4]
theorem leaves_5 (c : Dev nD) (t : Fin cfg0.N) :
    (dats m 0 c).leavesExact 5 t = owns (c : Thread nD τ) (memY t) fullShare (resultAt m c t) := by
  unfold Dat.leavesExact; rw [live_out t, left_5]

set_option maxHeartbeats 4000000 in
/-- The body at a sequence's first point. -/
theorem body_first (c : Dev nD) (t : Fin cfg0.N) (h : t.val % 22 = 0) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_first m c _ h, between_even m c _ (by omega) (by omega), launched, rowsAt_keep m c _ (by omega), rowsAt_first m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (first c (grid0.coords t) (memH t) (wholeH t) (memS t) (wholeS t) (memL t) (wholeL t) (memG t) (wholeG t) (memW t) (wholeW t) (memY t) (wholeY t) evenRows (Memref.isWhole_whole _) oddRows (Memref.isWhole_whole _) (b0.mpr (by omega)) (b1.mpr (by omega)) (fun h => absurd (b2.mp h) (by omega)) (fun h => absurd (b3.mp h) (by omega)) (fun h => absurd (b4.mp h) (by omega)) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at the first point of an even tile that is not its sequence's first. -/
theorem body_keep_even (c : Dev nD) (t : Fin cfg0.N) (h : ¬t.val % 22 = 0) (h' : t.val % 22 % 4 = 0) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_even m c t.val h (by omega), between_even m c (t.val + 1) (by omega) (by omega), rowsAt_keep m c _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (keep_even c (grid0.coords t) (memH t) (wholeH t) (memS t) (wholeS t) (memL t) (wholeL t) (memG t) (wholeG t) (memW t) (wholeW t) (memY t) (wholeY t) evenRows (Memref.isWhole_whole _) oddRows (Memref.isWhole_whole _) (fun h => absurd (b0.mp h) (by omega)) (b1.mpr (by omega)) (fun h => absurd (b2.mp h) (by omega)) (fun h => absurd (b3.mp h) (by omega)) (fun h => absurd (b4.mp h) (by omega)) (iblk m c 4 t) _ Set.univ _)
  isplitl [H4]; · iexact H4
  isplitl [H5]; · iexists _; iexact H5
  isplitl [HS0]; · iexact HS0
  iintro ⟨H4, H5, HS0⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at the first point of an odd tile. -/
theorem body_keep_odd (c : Dev nD) (t : Fin cfg0.N) (h' : t.val % 22 % 4 = 2) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_odd m c t.val (by omega) (by omega), between_odd m c (t.val + 1) (by omega) (by omega), rowsAt_keep m c _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (keep_odd c (grid0.coords t) (memH t) (wholeH t) (memS t) (wholeS t) (memL t) (wholeL t) (memG t) (wholeG t) (memW t) (wholeW t) (memY t) (wholeY t) evenRows (Memref.isWhole_whole _) oddRows (Memref.isWhole_whole _) (fun h => absurd (b0.mp h) (by omega)) (fun h => absurd (b1.mp h) (by omega)) (fun h => absurd (b2.mp h) (by omega)) (b3.mpr (by omega)) (fun h => absurd (b4.mp h) (by omega)) (iblk m c 4 t) _ Set.univ _)
  isplitl [H4]; · iexact H4
  isplitl [H5]; · iexists _; iexact H5
  isplitl [HS1]; · iexact HS1
  iintro ⟨H4, H5, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at the last point of an even tile that is not its sequence's last. -/
theorem body_next_even (c : Dev nD) (t : Fin cfg0.N) (h : ¬t.val % 22 = 21) (h' : t.val % 22 % 4 = 1) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_even m c t.val (by omega) (by omega), between_odd m c (t.val + 1) (by omega) (by omega), rowsAt_next m c t (by omega) (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (next_even c (grid0.coords t) (memH t) (wholeH t) (memS t) (wholeS t) (memL t) (wholeL t) (memG t) (wholeG t) (memW t) (wholeW t) (memY t) (wholeY t) evenRows (Memref.isWhole_whole _) oddRows (Memref.isWhole_whole _) (fun h => absurd (b0.mp h) (by omega)) (fun h => absurd (b1.mp h) (by omega)) (b2.mpr (by omega)) (fun h => absurd (b3.mp h) (by omega)) (fun h => absurd (b4.mp h) (by omega)) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at the last point of an odd tile. -/
theorem body_next_odd (c : Dev nD) (t : Fin cfg0.N) (h' : t.val % 22 % 4 = 3) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_odd m c t.val (by omega) (by omega), between_even m c (t.val + 1) (by omega) (by omega), rowsAt_next m c t (by omega) (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (next_odd c (grid0.coords t) (memH t) (wholeH t) (memS t) (wholeS t) (memL t) (wholeL t) (memG t) (wholeG t) (memW t) (wholeW t) (memY t) (wholeY t) evenRows (Memref.isWhole_whole _) oddRows (Memref.isWhole_whole _) (fun h => absurd (b0.mp h) (by omega)) (fun h => absurd (b1.mp h) (by omega)) (fun h => absurd (b2.mp h) (by omega)) (fun h => absurd (b3.mp h) (by omega)) (b4.mpr (by omega)) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at a sequence's last point. -/
theorem body_last (c : Dev nD) (t : Fin cfg0.N) (h : t.val % 22 = 21) :
    bodyPre m c t ⊢ wp frame (wpE (defs₀ (F := F)) Variants.none c none) Set.univ (bodyAt0 t) (fun _ => bodyPost m c t) := by
  obtain ⟨b0, b1, b2, b3, b4⟩ := branches t
  unfold bodyPre bodyPost bodyAt0
  simp only [given_0, given_1, given_2, given_3, given_4, leaves_0, leaves_1, leaves_2, leaves_3, leaves_4, leaves_5]
  rw [show (dats m 0 c).owesAt () t.succ = (dats m 0 c).owesAt () t.castSucc from rfl]
  rw [show (dats m 0 c).Φ t.castSucc = between m c t.val from rfl, show (dats m 0 c).Φ t.succ = between m c (t.val + 1) from rfl]
  unfold resultAt
  rw [between_even m c t.val (by omega) (by omega), between_first m c (t.val + 1) (by omega), launched]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (next_even c (grid0.coords t) (memH t) (wholeH t) (memS t) (wholeS t) (memL t) (wholeL t) (memG t) (wholeG t) (memW t) (wholeW t) (memY t) (wholeY t) evenRows (Memref.isWhole_whole _) oddRows (Memref.isWhole_whole _) (fun h => absurd (b0.mp h) (by omega)) (fun h => absurd (b1.mp h) (by omega)) (b2.mpr (by omega)) (fun h => absurd (b3.mp h) (by omega)) (fun h => absurd (b4.mp h) (by omega)) (iblk m c 0 t) (iblk m c 1 t) (iblk m c 2 t) (iblk m c 3 t) (iblk m c 4 t) _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body_sound (c : Dev nD) (t : Fin cfg0.N) :
    bodyPre m c t ⊢ wp frame (wpE (defs₀ (F := F)) Variants.none c none) Set.univ (bodyAt0 t) (fun _ => bodyPost m c t) := by
  by_cases h0 : t.val % 22 = 0
  · exact body_first m c t h0
  by_cases h1 : t.val % 22 = 21
  · exact body_last m c t h1
  by_cases h2 : t.val % 22 % 4 = 0
  · exact body_keep_even m c t h0 h2
  by_cases h3 : t.val % 22 % 4 = 1
  · exact body_next_even m c t h1 h3
  by_cases h4 : t.val % 22 % 4 = 2
  · exact body_keep_odd m c t h4
  exact body_next_odd m c t (by omega)

/-- The body's obligation, over the launch's table of bodies. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_sound m c t) rfl .rfl fun _ => .rfl

/-- What the launch hands the region is what is held before the first point. -/
theorem enter (c : Dev nD) : Pipeline.ΦA spec0 c ⊢ (dats m 0 c).Φ 0 := by
  rw [show (dats m 0 c).Φ 0 = between m c 0 from rfl, between_first m c 0 rfl]

/-- After the last point both buffers are at some contents again. -/
theorem leave (c : Dev nD) : (dats m 0 c).Φ (Fin.last cfg0.N) ⊢ Pipeline.ΦA spec0 c := by
  rw [show (dats m 0 c).Φ (Fin.last cfg0.N) = between m c cfg0.N from rfl, between_first m c _ (by rw [show cfg0.N = 44 from N_0])]

set_option backward.isDefEq.respectTransparency.types false in
/-- The program runs to its end, every array at what the points leave, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The result array ends at the points' products. -/
theorem run_array : θ_run defs (onTc (τ := τ) (main (F := F))) ⟨m, fun _ => 0, ρ⟩ (fun r => ∀ c : Dev nD,
      r.2.mem ((c.tc : Thread nD τ).loc main_v11) = (dats m 0 c).arrAt 5 cfg0.N) :=
  (θ_run defs _ _).mono (fun r h c => (h c).1 5) (run_main m ρ)

/-- The result array ends at the points' products, and the arguments unchanged. -/
theorem run_result : θ_run defs (onTc (τ := τ) (main (F := F))) ⟨m, fun _ => 0, ρ⟩ (fun r => ∀ c : Dev nD,
      r.2.mem ((c.tc : Thread nD τ).loc main_v11) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨h.1 c, h.2.1 c⟩) (θ_run_and (run_array m ρ) (unchanged m ρ))

end Cert.ProjectionIdeal.Run

end
-- ==== Proof.Projection.Same.lean ====
/-
  The projection kernel and its idealization have one body table, so that the run of the one is the run of the other.
-/
module

public import proofs.«01_k».proof.Proof.Projection.Launch
public import proofs.«01_k».proof.Proof.Gen.Projection

@[expose] public section

set_option maxRecDepth 16384

noncomputable section

namespace Cert.Projection.Same

open Idealize.ShloMosaic Idealize.ShloMosaic.TcCoe Idealize.SL.Sem

variable {F : FTy → Type} [FloatOps F]

/-- The kernel's body is the same at the one label there is. -/
theorem bodies : Cert.Projection.defs₀ (F := F) = Cert.ProjectionIdeal.defs₀ (F := F) := by
  unfold Cert.Projection.defs₀ Cert.ProjectionIdeal.defs₀
  refine congrArg _ ?_
  funext l x
  match l, x with
  | 0, (t, s) => rfl

/-- And so is the table of the launch. -/
theorem tables : Cert.Projection.defs (F := F) = Cert.ProjectionIdeal.defs (F := F) :=
  congrArg (Pipeline.defs Cert.ProjectionIdeal.pcfgs) bodies

/-- The kernel's run ends with the arguments unchanged and every counter at zero. -/
theorem unchanged (m : (ℓ : Loc Cert.Projection.nD Cert.Projection.τ Cert.Projection.sig) → Buf (Elt F) ℓ) (ρ : Dev Cert.Projection.nD → PrngReg) :
    θ_run (Cert.Projection.defs (F := F)) (onTc (τ := Cert.Projection.τ) (Cert.Projection.main (F := F))) ⟨m, fun _ => 0, ρ⟩
      (fun r => (∀ c : Dev Cert.Projection.nD,
        r.2.mem ((c.tc : Thread Cert.Projection.nD Cert.Projection.τ).loc Cert.Projection.main_arg0) = m ((c.tc : Thread Cert.Projection.nD Cert.Projection.τ).loc Cert.Projection.main_arg0)
        ∧ r.2.mem ((c.tc : Thread Cert.Projection.nD Cert.Projection.τ).loc Cert.Projection.main_arg1) = m ((c.tc : Thread Cert.Projection.nD Cert.Projection.τ).loc Cert.Projection.main_arg1)
        ∧ r.2.mem ((c.tc : Thread Cert.Projection.nD Cert.Projection.τ).loc Cert.Projection.main_arg2) = m ((c.tc : Thread Cert.Projection.nD Cert.Projection.τ).loc Cert.Projection.main_arg2)
        ∧ r.2.mem ((c.tc : Thread Cert.Projection.nD Cert.Projection.τ).loc Cert.Projection.main_arg3) = m ((c.tc : Thread Cert.Projection.nD Cert.Projection.τ).loc Cert.Projection.main_arg3)
        ∧ r.2.mem ((c.tc : Thread Cert.Projection.nD Cert.Projection.τ).loc Cert.Projection.main_arg4) = m ((c.tc : Thread Cert.Projection.nD Cert.Projection.τ).loc Cert.Projection.main_arg4))
        ∧ r.2.sem = fun _ => 0) := by
  rw [tables]
  exact Cert.ProjectionIdeal.Run.unchanged (F := F) m ρ

end Cert.Projection.Same

end
-- ==== Proof.NormProject.lean ====
/-
  The projection of a normalized row: the row is divided by its root mean square, weighted, scaled and shifted, and multiplied by a
  matrix; the result's columns are a rearrangement of the product's, the first 4096 halved.
-/
module

public import Idealize.ShloMosaic.Lib.Pointwise
public import Idealize.ShloMosaic.Lib.Pipeline.ValueKit
public import proofs.«01_k».proof.Proof.SoftmaxMath

@[expose] public section

noncomputable section

namespace Cert.NormProject

open Idealize.ShloMosaic

/-- A row divided by its root mean square and weighted. -/
def normed (h g : Fin 1024 → EReal) (d : Fin 1024) : EReal :=
  h d * Ideal.rsqrt (Ideal.div (∑ k, h k * h k) (Ideal.ofBits .f32 0x44800000#32) + Ideal.ofBits .f32 0x358637BD#32) * g d

/-- The row scaled and shifted. -/
def prepared (h g scale shift : Fin 1024 → EReal) (d : Fin 1024) : EReal := normed h g d * (1 + scale d) + shift d

/-- The product's column a column of the result is. -/
def source (e : Fin 6656) : Fin 6656 :=
  if h : e.val < 4096 then ⟨2560 + e.val, by omega⟩
  else if h : e.val - 4096 < 512 then ⟨1280 + (e.val - 4096), by omega⟩
  else if h : e.val - 4096 - 512 < 512 then ⟨2048 + (e.val - 4096 - 512), by omega⟩
  else if h : e.val - 4096 - 512 - 512 < 1280 then ⟨e.val - 4096 - 512 - 512, by omega⟩
  else ⟨1792 + (e.val - 4096 - 512 - 512 - 1280), by omega⟩

/-- One half. -/
theorem ofBits_half : Ideal.ofBits .f32 0x3F000000#32 = ((1 / 2 : ℝ) : EReal) := by
  simp [Ideal.ofBits, Ideal.ieee, -EReal.coe_mul]; norm_num

/-- An array of columns taken by ranges, the first range halved, is the columns of their sources. -/
theorem by_ranges (f : Fin 6656 → EReal) (e : Fin 6656) :
    (if h : e.val < 4096 then ((1 / 2 : ℝ) : EReal) * f ⟨2560 + e.val, by omega⟩
      else if h : e.val - 4096 < 512 then f ⟨1280 + (e.val - 4096), by omega⟩
      else if h : e.val - 4096 - 512 < 512 then f ⟨2048 + (e.val - 4096 - 512), by omega⟩
      else if h : e.val - 4096 - 512 - 512 < 1280 then f ⟨e.val - 4096 - 512 - 512, by omega⟩
      else f ⟨1792 + (e.val - 4096 - 512 - 512 - 1280), by omega⟩)
    = if e.val < 4096 then ((1 / 2 : ℝ) : EReal) * f (source e) else f (source e) := by
  unfold source
  by_cases h1 : e.val < 4096
  · simp only [dif_pos h1, if_pos h1]
  simp only [dif_neg h1, if_neg h1]
  by_cases h2 : e.val - 4096 < 512
  · simp only [dif_pos h2]
  simp only [dif_neg h2]
  by_cases h3 : e.val - 4096 - 512 < 512
  · simp only [dif_pos h3]
  simp only [dif_neg h3]
  by_cases h4 : e.val - 4096 - 512 - 512 < 1280
  · simp only [dif_pos h4]
  · simp only [dif_neg h4]

/-- A column of the rearranged matrix: the first 4096 are halved. -/
def column (w : Shape.Idx ⟨2, ![1024, 6656]⟩ → EReal) (d : Fin 1024) (e : Fin 6656) : EReal :=
  if e.val < 4096 then ((1 / 2 : ℝ) : EReal) * w (ix2 d (source e)) else w (ix2 d (source e))

/-- A row's product with the rearranged matrix is the rearrangement of its product. -/
theorem sum_column (x : Fin 1024 → EReal) (w : Shape.Idx ⟨2, ![1024, 6656]⟩ → EReal) (e : Fin 6656) :
    ∑ d, x d * column w d e
      = if e.val < 4096 then ((1 / 2 : ℝ) : EReal) * ∑ d, x d * w (ix2 d (source e)) else ∑ d, x d * w (ix2 d (source e)) := by
  unfold column
  by_cases h : e.val < 4096
  · simp only [if_pos h]
    rw [Cert.Softmax.real_mul_sum _ _ _ (by norm_num)]
    exact Finset.sum_congr rfl fun d _ => by rw [mul_comm ((1 / 2 : ℝ) : EReal), mul_assoc]
  · simp only [if_neg h]

/-- The prepared row `r` of sequence `b`: the first 256 rows take the shared scale and shift, the others the sequence's own. -/
def rowOf (h : Shape.Idx ⟨3, ![2, 8448, 1024]⟩ → EReal) (mc : Shape.Idx ⟨2, ![6, 1024]⟩ → EReal) (ml : Shape.Idx ⟨3, ![2, 6, 1024]⟩ → EReal)
    (g : Shape.Idx ⟨1, ![1024]⟩ → EReal) (b : Fin 2) (r : Fin 8448) (d : Fin 1024) : EReal :=
  prepared (fun k => h (ix3 b r k)) (fun k => g (ix1 k)) (fun k => if r.val < 256 then mc (ix2 1 k) else ml (ix3 b 1 k))
    (fun k => if r.val < 256 then mc (ix2 0 k) else ml (ix3 b 0 k)) d

/-- The projection. -/
def projection (h : Shape.Idx ⟨3, ![2, 8448, 1024]⟩ → EReal) (mc : Shape.Idx ⟨2, ![6, 1024]⟩ → EReal) (ml : Shape.Idx ⟨3, ![2, 6, 1024]⟩ → EReal)
    (g : Shape.Idx ⟨1, ![1024]⟩ → EReal) (w : Shape.Idx ⟨2, ![1024, 6656]⟩ → EReal) : Shape.Idx ⟨3, ![2, 8448, 6656]⟩ → EReal := fun i =>
  ∑ d, rowOf h mc ml g (i 0) (i 1) d * column w d (i 2)

end Cert.NormProject

end
-- ==== Proof.Projection.Output.lean ====
/-
  The projection's result array, index by index.
-/
module

public import proofs.«01_k».proof.Proof.NormProject
public import proofs.«01_k».proof.Proof.Projection.Launch
public import Idealize.ShloMosaic.Lib.Pointwise

@[expose] public section

set_option maxRecDepth 16384

noncomputable section

namespace Cert.ProjectionIdeal.Out

open Cert.ProjectionIdeal Cert.ProjectionIdeal.Gen Cert.ProjectionIdeal.Run Idealize.ShloMosaic Idealize.ShloMosaic.TcCoe Idealize.SL.Sem
open Cert.NormProject

variable (m : (ℓ : Loc nD τ sig) → Buf (Elt Ideal) ℓ) (c : Dev nD)

/-- Each window's block of its array at a grid point. -/
theorem idx : ∀ t : Fin grid0.N,
    win0_0.index t = ![t.val / 22, min (t.val / 2 % 11 + t.val % 2) 10, 0]
    ∧ win0_1.index t = ![0, 0]
    ∧ win0_2.index t = ![t.val / 22, 0, 0]
    ∧ win0_3.index t = ![0, 0]
    ∧ win0_4.index t = ![0, 0, t.val % 2]
    ∧ win0_5.index t = ![t.val / 22, t.val / 2 % 11, t.val % 2]
    ∧ (grid0.coords t 1).val = t.val / 2 % 11 := by decide +kernel

/-- The rows the program is given. -/
def hIn : Vec Ideal S2x8448x1024 .f32 := m ((c : Thread nD τ).loc main_arg0)
/-- The shared shifts and scales. -/
def sharedIn : Vec Ideal S6x1024 .f32 := m ((c : Thread nD τ).loc main_arg1)
/-- Each sequence's shifts and scales. -/
def ownIn : Vec Ideal S2x6x1024 .f32 := m ((c : Thread nD τ).loc main_arg2)
/-- The normalization's weights. -/
def gIn : Vec Ideal S1024 .f32 := m ((c : Thread nD τ).loc main_arg3)
/-- The projection's weights. -/
def wIn : Vec Ideal S1024x6656 .f32 := m ((c : Thread nD τ).loc main_arg4)

/-- The weights the kernel is passed. -/
def rearranged (w : FVec Ideal S1024x6656 .f32) : FVec Ideal S1x1024x6656 .bf16 :=
  truncf .bf16 (concatenate S1x1024x6656 2
    [⟨S1x1024x4096, mulf (broadcastInDim S1x1024x4096 ![] bcast_S_S1x1024x4096 (constant S_ .f32 0x3F000000#32))
        (extractStridedSlice S1x1024x4096 ![0, 0, 2560] (broadcastInDim S1x1024x6656 ![1, 2] bcast_S1024x6656_S1x1024x6656_1_2 w) slices_S1x1024x6656_S1x1024x4096_0_0_2560)⟩,
      ⟨S1x1024x512, extractStridedSlice S1x1024x512 ![0, 0, 1280] (broadcastInDim S1x1024x6656 ![1, 2] bcast_S1024x6656_S1x1024x6656_1_2 w) slices_S1x1024x6656_S1x1024x512_0_0_1280⟩,
      ⟨S1x1024x512, extractStridedSlice S1x1024x512 ![0, 0, 2048] (broadcastInDim S1x1024x6656 ![1, 2] bcast_S1024x6656_S1x1024x6656_1_2 w) slices_S1x1024x6656_S1x1024x512_0_0_2048⟩,
      ⟨S1x1024x1280, extractStridedSlice S1x1024x1280 ![0, 0, 0] (broadcastInDim S1x1024x6656 ![1, 2] bcast_S1024x6656_S1x1024x6656_1_2 w) slices_S1x1024x6656_S1x1024x1280_0_0_0⟩,
      ⟨S1x1024x256, extractStridedSlice S1x1024x256 ![0, 0, 1792] (broadcastInDim S1x1024x6656 ![1, 2] bcast_S1024x6656_S1x1024x6656_1_2 w) slices_S1x1024x6656_S1x1024x256_0_0_1792⟩]
    concatenates_S1x1024x4096_S1x1024x512_S1x1024x512_S1x1024x1280_S1x1024x256_S1x1024x6656_d2) bitsLt_bf16_f32

/-- The host code computes them. -/
theorem weights_eq : V m c main_v10 = rearranged (wIn m c) := by
  unfold V hostOps0
  after_results_simp <;> (try dsimp only [Matrix.cons_val]) <;> (try after_results_simp) <;> rfl

/-- The normalization's weights as the kernel is passed them. -/
theorem g_eq (k : Fin 1024) : V m c main_v0 (ix2 0 k) = gIn m c (ix1 k) := by
  have h : V m c main_v0 = shapeCast S1x1024 (gIn m c) shapeCasts_S1024_S1x1024 := by
    unfold V hostOps0
    after_results_simp <;> rfl
  rw [h]
  pointwise

/-- They are the rearranged columns. -/
theorem rearranged_eq (w : FVec Ideal S1024x6656 .f32) (d : Fin 1024) (e : Fin 6656) : rearranged w (ix3 0 d e) = column w d e := by
  unfold rearranged
  pointwise [ofBits_half]
  exact by_ranges (fun k => w (ix2 d k)) e

/-- The row's number within its sequence, below 256 or not. -/
theorem choose_row (n : ℕ) (hn : n < 16896) (k : BitVec 32) (y : ℕ) (e : IntOp.addi k (BitVec.ofNat 32 y) = BitVec.ofNat 32 n) (a b : EReal) :
    Scalar.select (IntOp.cmpi CmpIPredicate.slt (IntOp.addi k (BitVec.ofNat 32 y)) 256#32) a b = if n < 256 then a else b := by
  have h : (BitVec.ofNat 32 n).slt 256#32 = decide (n < 256) := by
    rw [BitVec.slt, BitVec.toInt_eq_toNat_cond, BitVec.toNat_ofNat, Nat.mod_eq_of_lt (by omega), if_pos (by omega)]
    show decide ((n : ℤ) < 256) = _
    exact decide_eq_decide.2 (by omega)
  rw [e]
  show Scalar.select (BitVec.ofBool ((BitVec.ofNat 32 n).slt 256#32)) a b = _
  rw [h]
  by_cases hc : n < 256
  · rw [if_pos hc, decide_eq_true hc]
    rfl
  · rw [if_neg hc, decide_eq_false hc]
    rfl

/-- A row of the first tile. -/
theorem first_row (y : ℕ) : IntOp.addi 0#32 (BitVec.ofNat 32 y) = BitVec.ofNat 32 y := by
  show 0#32 + BitVec.ofNat 32 y = _
  rw [BitVec.zero_add]

/-- A row of the tile after tile `k`. -/
theorem next_row (k y : ℕ) : IntOp.addi (Scalar.muli (Scalar.addi (BitVec.ofNat 32 k) 1#32) 768#32) (BitVec.ofNat 32 y)
    = BitVec.ofNat 32 ((k + 1) * 768 + y) := by
  show (BitVec.ofNat 32 k + 1#32) * 768#32 + BitVec.ofNat 32 y = _
  rw [BitVec.ofNat_add, BitVec.ofNat_mul, BitVec.ofNat_add]

/-- The prepared rows of a first tile, at an index. -/
theorem firstRows_eq (x0 : Vec Ideal S1x768x1024 .f32) (x1 : Vec Ideal S6x1024 .f32) (x2 : Vec Ideal S1x6x1024 .f32) (x3 : Vec Ideal S1x1024 .f32)
    (r : Fin 768) (d : Fin 1024) : firstRows x0 x1 x2 x3 (ix2 r d)
      = prepared (fun k => x0 (ix3 0 r k)) (fun k => x3 (ix2 0 k)) (fun k => if r.val < 256 then x1 (ix2 1 k) else x2 (ix3 0 1 k))
        (fun k => if r.val < 256 then x1 (ix2 0 k) else x2 (ix3 0 0 k)) d := by
  unfold firstRows prepared normed
  unfold_payloads
  pointwise
  have h := r.isLt
  rw [choose_row r.val (by omega) _ _ (first_row _), choose_row r.val (by omega) _ _ (first_row _)]

/-- The prepared rows of a later tile, at an index. -/
theorem nextRows_eq (a : ℕ) (ha : a < 11) (x0 : Vec Ideal S1x768x1024 .f32) (x1 : Vec Ideal S6x1024 .f32) (x2 : Vec Ideal S1x6x1024 .f32) (x3 : Vec Ideal S1x1024 .f32)
    (r : Fin 768) (d : Fin 1024) : nextRows (BitVec.ofNat 32 a) x0 x1 x2 x3 (ix2 r d)
      = prepared (fun k => x0 (ix3 0 r k)) (fun k => x3 (ix2 0 k)) (fun k => x2 (ix3 0 1 k))
        (fun k => x2 (ix3 0 0 k)) d := by
  unfold nextRows prepared normed
  unfold_payloads
  pointwise
  have h := r.isLt
  rw [choose_row _ (by omega) _ _ (next_row _ _), choose_row _ (by omega) _ _ (next_row _ _), if_neg (by omega), if_neg (by omega)]

/-- The rows a point multiplies. -/
theorem rowsAt_eq (t : Fin grid0.N) (r : Fin 768) (d : Fin 1024) (hb : t.val / 22 < 2) (hr : t.val / 2 % 11 * 768 + r.val < 8448) :
    rowsAt m c t.val (ix2 r d)
      = rowOf (hIn m c) (sharedIn m c) (ownIn m c) (gIn m c) ⟨t.val / 22, hb⟩ ⟨t.val / 2 % 11 * 768 + r.val, hr⟩ d := by
  have ht : t.val < 44 := t.isLt.trans_eq N_0
  unfold rowsAt rowOf
  by_cases hf : t.val % 22 < 2
  · rw [if_pos hf]
    have hp : (point (t.val - t.val % 2)).val = t.val - t.val % 2 := Nat.mod_eq_of_lt (by omega)
    obtain ⟨h0, h1, h2, h3, -, -, -⟩ := idx (point (t.val - t.val % 2))
    generalize point (t.val - t.val % 2) = p at *
    rw [firstRows_eq]
    have b0 : ∀ k : Fin 1024, iblk m c 0 p (ix3 0 r k) = hIn m c (ix3 ⟨t.val / 22, hb⟩ ⟨t.val / 2 % 11 * 768 + r.val, hr⟩ k) := fun k => by
      blk_ext [iblk, V, hIn, h0]
    have b1 : ∀ (i : Fin 6) (k : Fin 1024), iblk m c 1 p (ix2 i k) = sharedIn m c (ix2 i k) := fun i k => by blk_ext [iblk, V, sharedIn, h1]
    have b2 : ∀ (i : Fin 6) (k : Fin 1024), iblk m c 2 p (ix3 0 i k) = ownIn m c (ix3 ⟨t.val / 22, hb⟩ i k) := fun i k => by blk_ext [iblk, V, ownIn, h2]
    have b3 : ∀ k : Fin 1024, iblk m c 3 p (ix2 0 k) = gIn m c (ix1 k) := fun k => by
      rw [← g_eq]
      blk_ext [iblk, h3]
    have hq : (t.val / 2 % 11 * 768 + r.val < 256) = (r.val < 256) := by
      rw [show t.val / 2 % 11 = 0 by omega, zero_mul, zero_add]
    simp only [b0, b1, b2, b3, hq]
  · rw [if_neg hf]
    have hp : (point (t.val - 1 - t.val % 2)).val = t.val - 1 - t.val % 2 := Nat.mod_eq_of_lt (by omega)
    obtain ⟨h0, h1, h2, h3, -, -, h6⟩ := idx (point (t.val - 1 - t.val % 2))
    generalize point (t.val - 1 - t.val % 2) = p at *
    rw [nextRows_eq _ (by omega)]
    have b0 : ∀ k : Fin 1024, iblk m c 0 p (ix3 0 r k) = hIn m c (ix3 ⟨t.val / 22, hb⟩ ⟨t.val / 2 % 11 * 768 + r.val, hr⟩ k) := fun k => by
      blk_ext [iblk, V, hIn, h0]
    have b2 : ∀ (i : Fin 6) (k : Fin 1024), iblk m c 2 p (ix3 0 i k) = ownIn m c (ix3 ⟨t.val / 22, hb⟩ i k) := fun i k => by blk_ext [iblk, V, ownIn, h2]
    have b3 : ∀ k : Fin 1024, iblk m c 3 p (ix2 0 k) = gIn m c (ix1 k) := fun k => by
      rw [← g_eq]
      blk_ext [iblk, h3]
    have hq : ¬ t.val / 2 % 11 * 768 + r.val < 256 := by omega
    simp only [b0, b2, b3, if_neg hq]

/-- A product at an index. -/
theorem product_eq (rows : Vec Ideal S768x1024 .bf16) (w : Vec Ideal S1x1024x3328 .bf16) (r : Fin 768) (e : Fin 3328) :
    product rows w (ix3 0 r e) = ∑ d : Fin 1024, rows (ix2 r d) * w (ix3 0 d e) := by
  unfold product
  unfold_payloads
  pointwise

/-- The result array. -/
theorem array_eq : (dats m 0 c).arrAt 5 cfg0.N = projection (hIn m c) (sharedIn m c) (ownIn m c) (gIn m c) (wIn m c) := by
  refine (dats m 0 c).arrAt_eq_of_covers 5 _ (by decide +kernel) fun t hf y => ?_
  obtain ⟨-, -, -, -, h4, h5, -⟩ := idx t
  have ht : t.val < 44 := t.isLt.trans_eq N_0
  blk_simp
  rw [left_5]
  idx_vars y
  have hy := y1.isLt
  have hz := y2.isLt
  have he : (win0_5.blk t).view.emb (ix3 y0 y1 y2)
      = ix3 ⟨t.val / 22, by omega⟩ ⟨t.val / 2 % 11 * 768 + y1.val, by omega⟩ ⟨t.val % 2 * 3328 + y2.val, by omega⟩ := by
    blk_ext [h5]
  rw [he]
  have b4 : ∀ d : Fin 1024, iblk m c 4 t (ix3 0 d y2) = column (wIn m c) d ⟨t.val % 2 * 3328 + y2.val, by omega⟩ := fun d => by
    rw [← rearranged_eq, ← weights_eq]
    blk_ext [iblk, h4]
  unfold resultAt
  have hy0 : y0 = 0 := Fin.ext (by have := y0.isLt; dsimp only [] at *; omega)
  have key : product (rowsAt m c t.val) (iblk m c 4 t) (ix3 0 y1 y2) = projection (hIn m c) (sharedIn m c) (ownIn m c) (gIn m c) (wIn m c)
      (ix3 ⟨t.val / 22, by omega⟩ ⟨t.val / 2 % 11 * 768 + y1.val, by omega⟩ ⟨t.val % 2 * 3328 + y2.val, by omega⟩) := by
    rw [product_eq]
    exact Finset.sum_congr rfl fun d _ => by rw [rowsAt_eq m c t y1 d (by omega) (by omega), b4]; rfl
  rw [hy0]
  exact key

end Cert.ProjectionIdeal.Out

end
-- ==== Proof.Projection.Reference.lean ====
/-
  The projection reference's result, index by index.
-/
module

public import proofs.«01_k».proof.Proof.NormProject
public import proofs.«01_k».proof.Proof.Gen.ProjectionReferenceIdeal.Run

@[expose] public section

set_option maxRecDepth 16384

noncomputable section

namespace Cert.ProjectionReferenceIdeal.Out

open Cert.ProjectionReferenceIdeal Cert.ProjectionReferenceIdeal.Gen Idealize.ShloMosaic Idealize.ShloMosaic.TcCoe Idealize.SL.Sem
open Cert.NormProject

/-- The rows divided by their root mean squares and weighted. -/
def norms (h : FVec Ideal S2x8448x1024 .f32) (g : FVec Ideal S1024 .f32) : FVec Ideal S2x8448x1024 .f32 :=
  mulf (mulf h (broadcastInDim S2x8448x1024 ![0, 1, 2] bcast_S2x8448x1_S2x8448x1024_0_1_2
      (Host.rsqrt (addf (Host.divf (broadcastInDim S2x8448x1 ![0, 1] bcast_S2x8448_S2x8448x1_0_1
            (Host.reduceAdd (mulf h h) (constant S_ .f32 0x00000000#32) reducesTo_S2x8448x1024_S2x8448_d2 h_S_))
          (broadcastInDim S2x8448x1 ![] bcast_S_S2x8448x1 (constant S_ .f32 0x44800000#32)))
        (broadcastInDim S2x8448x1 ![] bcast_S_S2x8448x1 (constant S_ .f32 0x358637BD#32))))))
    (broadcastInDim S2x8448x1024 ![0, 1, 2] bcast_S1x1x1024_S2x8448x1024_0_1_2 (broadcastInDim S1x1x1024 ![2] bcast_S1024_S1x1x1024_2 g))

/-- The rows scaled and shifted: one scale and shift for the first 256 rows of a sequence, those of its sequence for the others. -/
def rows (n : FVec Ideal S2x8448x1024 .f32) (mc : FVec Ideal S6x1024 .f32) (ml : FVec Ideal S2x6x1024 .f32) : FVec Ideal S2x8448x1024 .f32 :=
  concatenate S2x8448x1024 1 [⟨S2x256x1024, (addf (mulf (extractStridedSlice S2x256x1024 ![0, 0, 0] n slices_S2x8448x1024_S2x256x1024_0_0_0)
      (broadcastInDim S2x256x1024 ![0, 1, 2] bcast_S1x1x1024_S2x256x1024_0_1_2
        (addf (broadcastInDim S1x1x1024 ![] bcast_S_S1x1x1024 (constant S_ .f32 0x3F800000#32))
          (broadcastInDim S1x1x1024 ![1, 2] bcast_S1x1024_S1x1x1024_1_2 (extractStridedSlice S1x1024 ![1, 0] mc slices_S6x1024_S1x1024_1_0)))))
      (broadcastInDim S2x256x1024 ![0, 1, 2] bcast_S1x1x1024_S2x256x1024_0_1_2
        (broadcastInDim S1x1x1024 ![1, 2] bcast_S1x1024_S1x1x1024_1_2 (extractStridedSlice S1x1024 ![0, 0] mc slices_S6x1024_S1x1024_0_0))))⟩,
    ⟨S2x8192x1024, (addf (mulf (extractStridedSlice S2x8192x1024 ![0, 256, 0] n slices_S2x8448x1024_S2x8192x1024_0_256_0)
      (broadcastInDim S2x8192x1024 ![0, 1, 2] bcast_S2x1x1024_S2x8192x1024_0_1_2
        (addf (broadcastInDim S2x1x1024 ![] bcast_S_S2x1x1024 (constant S_ .f32 0x3F800000#32))
          (extractStridedSlice S2x1x1024 ![0, 1, 0] ml slices_S2x6x1024_S2x1x1024_0_1_0))))
      (broadcastInDim S2x8192x1024 ![0, 1, 2] bcast_S2x1x1024_S2x8192x1024_0_1_2
        (extractStridedSlice S2x1x1024 ![0, 0, 0] ml slices_S2x6x1024_S2x1x1024_0_0_0)))⟩]
    concatenates_S2x256x1024_S2x8192x1024_S2x8448x1024_d1

/-- The rows' product with the weights. -/
def product (x : FVec Ideal S2x8448x1024 .f32) (w : FVec Ideal S1024x6656 .f32) : FVec Ideal S2x8448x6656 .f32 :=
  Host.dotGeneral dot_S2x8448x1024_S1024x6656_S2x8448x6656_2_0_01_1_n_n none x w

/-- The product's columns rearranged, the first 4096 halved. -/
def rearranged (y : FVec Ideal S2x8448x6656 .f32) : FVec Ideal S2x8448x6656 .bf16 :=
  truncf .bf16 (concatenate S2x8448x6656 2
    [⟨S2x8448x4096, mulf (broadcastInDim S2x8448x4096 ![] bcast_S_S2x8448x4096 (constant S_ .f32 0x3F000000#32))
        (extractStridedSlice S2x8448x4096 ![0, 0, 2560] y slices_S2x8448x6656_S2x8448x4096_0_0_2560)⟩,
      ⟨S2x8448x512, extractStridedSlice S2x8448x512 ![0, 0, 1280] y slices_S2x8448x6656_S2x8448x512_0_0_1280⟩,
      ⟨S2x8448x512, extractStridedSlice S2x8448x512 ![0, 0, 2048] y slices_S2x8448x6656_S2x8448x512_0_0_2048⟩,
      ⟨S2x8448x1280, extractStridedSlice S2x8448x1280 ![0, 0, 0] y slices_S2x8448x6656_S2x8448x1280_0_0_0⟩,
      ⟨S2x8448x256, extractStridedSlice S2x8448x256 ![0, 0, 1792] y slices_S2x8448x6656_S2x8448x256_0_0_1792⟩]
    concatenates_S2x8448x4096_S2x8448x512_S2x8448x512_S2x8448x1280_S2x8448x256_S2x8448x6656_d2) bitsLt_bf16_f32

/-- A normed row at an index. -/
theorem norms_eq (h : FVec Ideal S2x8448x1024 .f32) (g : FVec Ideal S1024 .f32) (b : Fin 2) (r : Fin 8448) (d : Fin 1024) :
    norms h g (ix3 b r d) = normed (fun k => h (ix3 b r k)) (fun k => g (ix1 k)) d := by
  unfold norms normed
  pointwise

/-- A prepared row at an index. -/
theorem rows_eq (n : FVec Ideal S2x8448x1024 .f32) (mc : FVec Ideal S6x1024 .f32) (ml : FVec Ideal S2x6x1024 .f32)
    (b : Fin 2) (r : Fin 8448) (d : Fin 1024) :
    rows n mc ml (ix3 b r d) = n (ix3 b r d) * (1 + (if r.val < 256 then mc (ix2 1 d) else ml (ix3 b 1 d)))
      + (if r.val < 256 then mc (ix2 0 d) else ml (ix3 b 0 d)) := by
  unfold rows
  have := r.isLt
  by_cases hr : r.val < 256
  · rw [if_pos hr, if_pos hr]
    pointwise
    rw [dif_pos hr]
  · rw [if_neg hr, if_neg hr]
    pointwise
    have hx : (⟨256 + (r.val - 256), by omega⟩ : Fin 8448) = r := Fin.ext (by dsimp only; omega)
    rw [dif_neg hr, hx]

/-- The product at an index. -/
theorem product_eq (x : FVec Ideal S2x8448x1024 .f32) (w : FVec Ideal S1024x6656 .f32) (b : Fin 2) (r : Fin 8448) (e : Fin 6656) :
    product x w (ix3 b r e) = ∑ d : Fin 1024, x (ix3 b r d) * w (ix2 d e) := by
  unfold product
  pointwise

/-- A rearranged column at an index. -/
theorem rearranged_eq (y : FVec Ideal S2x8448x6656 .f32) (b : Fin 2) (r : Fin 8448) (e : Fin 6656) :
    rearranged y (ix3 b r e)
      = if e.val < 4096 then ((1 / 2 : ℝ) : EReal) * y (ix3 b r (source e)) else y (ix3 b r (source e)) := by
  unfold rearranged
  pointwise [ofBits_half]
  exact by_ranges (fun k => y (ix3 b r k)) e

/-- The reference's result, at an index. -/
theorem result_eq (h : FVec Ideal S2x8448x1024 .f32) (mc : FVec Ideal S6x1024 .f32) (ml : FVec Ideal S2x6x1024 .f32)
    (g : FVec Ideal S1024 .f32) (w : FVec Ideal S1024x6656 .f32) (b : Fin 2) (r : Fin 8448) (e : Fin 6656) :
    rearranged (product (rows (norms h g) mc ml) w) (ix3 b r e) = projection h mc ml g w (ix3 b r e) := by
  rw [rearranged_eq, product_eq]
  simp only [rows_eq, norms_eq]
  exact (sum_column (rowOf h mc ml g b r) w e).symm

/-- The reference's result. -/
theorem result_array (h : FVec Ideal S2x8448x1024 .f32) (mc : FVec Ideal S6x1024 .f32) (ml : FVec Ideal S2x6x1024 .f32)
    (g : FVec Ideal S1024 .f32) (w : FVec Ideal S1024x6656 .f32) :
    rearranged (product (rows (norms h g) mc ml) w) = projection h mc ml g w := by
  funext i
  exact (congrArg _ (eq_ix3 i)).trans ((result_eq h mc ml g w (i 0) (i 1) (i 2)).trans (congrArg _ (eq_ix3 i).symm))

end Cert.ProjectionReferenceIdeal.Out

end
-- ==== Proof.Merge.Finite.lean ====
/-
  The merge's precondition: the retention's two sums are arrays of real numbers.
-/
module

public import proofs.«01_k».proof.Pre_finite_sums
public import proofs.«01_k».proof.Proof.Finite

@[expose] public section

set_option maxRecDepth 16384

noncomputable section

namespace Cert.Pre_finite_sums

open Idealize.ShloMosaic Cert.Softmax Cert.Pre_finite_qk

/-- The precondition's shape facts. -/
theorem sums_facts : Facts := ⟨by decide⟩

variable [hF : Facts] (a0 : FVec Ideal S2x8448x1024 .f32) (a1 : FVec Ideal S6x1024 .f32) (a2 : FVec Ideal S2x6x1024 .f32)
  (a3 : FVec Ideal S2x8192x256 .f32) (a4 : FVec Ideal S2x256x256 .f32) (a5 a6 : FVec Ideal S2x8448x256 .f32) (a7 : FVec Ideal S2x8448x6656 .f32)
  (a8 : FVec Ideal S2x8192x512 .f32) (a9 : FVec Ideal S2x256x512 .f32) (a10 : FVec Ideal S2x8448x256 .f32) (a11 : FVec Ideal S256x1024 .f32)
  (a12 : FVec Ideal S256 .f32) (a13 : FVec Ideal S256x1024 .f32) (a14 : FVec Ideal S512x1024 .f32) (a15 : FVec Ideal S256x1024 .f32)
  (a16 : FVec Ideal S1024x1024 .f32) (a17 : FVec Ideal S1024 .f32)

/-- The forward sums are real numbers. -/
theorem forward_real (h : (fn a0 a1 a2 a3 a4 a5 a6 a7 a8 a9 a10 a11 a12 a13 a14 a15 a16 a17).1 = fun _ => 1#1) : a5 = fun i => ((a5 i).toReal : EReal) := by
  funext i
  have e := congrFun h i
  dsimp only [fn] at e
  revert e
  pointwise [ofBits_inf]
  exact fun e => real_of_lt _ (of_decide_eq_true (eq_true_of_bit _ e))

/-- The backward sums are real numbers. -/
theorem backward_real (h : (fn a0 a1 a2 a3 a4 a5 a6 a7 a8 a9 a10 a11 a12 a13 a14 a15 a16 a17).2 = fun _ => 1#1) : a6 = fun i => ((a6 i).toReal : EReal) := by
  funext i
  have e := congrFun h i
  dsimp only [fn] at e
  revert e
  pointwise [ofBits_inf]
  exact fun e => real_of_lt _ (of_decide_eq_true (eq_true_of_bit _ e))

end Cert.Pre_finite_sums

end
-- ==== Proof.GatedMerge.lean ====
/-
  The merge of four branches: each branch's row is projected, weighted by the sigmoid of its gate, and the sum is projected and added to
  the residual row; then the row is normalized, scaled and shifted for the feed-forward part.
-/
module

public import proofs.«01_k».proof.Proof.NormProject
public import proofs.«01_k».proof.Proof.Swiglu

@[expose] public section

noncomputable section

namespace Cert.GatedMerge

open Idealize.ShloMosaic

/-- An array of two axes. -/
abbrev Mat (a b : ℕ) : Type := Shape.Idx ⟨2, ![a, b]⟩ → EReal
/-- An array of three axes. -/
abbrev Cube (a b c : ℕ) : Type := Shape.Idx ⟨3, ![a, b, c]⟩ → EReal
/-- An array of one axis. -/
abbrev Line (a : ℕ) : Type := Shape.Idx ⟨1, ![a]⟩ → EReal

/-- What the merge is of: the residual rows, the modulation's vectors, the branches' rows, the array that holds the halves of the gates, and
the weights. -/
structure Inputs where
  h : Cube 2 8448 1024
  mc : Mat 6 1024
  ml : Cube 2 6 1024
  yl : Cube 2 8192 256
  yc : Cube 2 256 256
  fwd : Cube 2 8448 256
  bwd : Cube 2 8448 256
  proj : Cube 2 8448 6656
  ol : Cube 2 8192 512
  oc : Cube 2 256 512
  cv : Cube 2 8448 256
  fw : Mat 256 1024
  rg : Line 256
  rw : Mat 256 1024
  aw : Mat 512 1024
  cw : Mat 256 1024
  wo : Mat 1024 1024
  ng : Line 1024

/-- The context's row below 256, the latents' from there on. -/
def row {n : ℕ} (c : Cube 2 256 n) (l : Cube 2 8192 n) (b : Fin 2) (r : Fin 8448) (d : Fin n) : EReal :=
  if h : r.val < 256 then c (ix3 b ⟨r.val, h⟩ d) else l (ix3 b ⟨r.val - 256, by omega⟩ d)

/-- A number in the modulation's vector `k` of a row: the shared one below 256, the sequence's own from there on. -/
def modAt (mc : Mat 6 1024) (ml : Cube 2 6 1024) (k : Fin 6) (b : Fin 2) (r : Fin 8448) (e : Fin 1024) : EReal :=
  if r.val < 256 then mc (ix2 k e) else ml (ix3 b k e)

/-- A coordinate of the head that coordinate `d` lies in. -/
def inHead (d : Fin 256) (k : Fin 64) : Fin 256 := ⟨d.val / 64 * 64 + k.val, by omega⟩

/-- A row divided, head by head, by its root mean square, and weighted. -/
def headNormed (o g : Fin 256 → EReal) (d : Fin 256) : EReal :=
  o d * Ideal.rsqrt (Ideal.div (∑ k : Fin 64, o (inHead d k) * o (inHead d k)) (Ideal.ofBits .f32 0x42800000#32) + Ideal.ofBits .f32 0x358637BD#32) * g d

/-- The sigmoid of twice a number. -/
def sigmoidTwice (x : EReal) : EReal := Ideal.div 1 (1 + Ideal.exp (-(((2 : ℝ) : EReal) * x)))

variable (I : Inputs) (b : Fin 2) (r : Fin 8448)

/-- The projection of the Fourier branch. -/
def fourier (e : Fin 1024) : EReal := ∑ d, row I.yc I.yl b r d * I.fw (ix2 d e)
/-- The projection of the retention branch. -/
def retention (e : Fin 1024) : EReal :=
  ∑ d : Fin 256, headNormed (fun k => I.fwd (ix3 b r k) + I.bwd (ix3 b r k)) (fun k => I.rg (ix1 k)) d
    * Cert.Swiglu.swish (I.proj (ix3 b r ⟨6144 + d.val, by omega⟩)) * I.rw (ix2 d e)
/-- The projection of the attention branch. -/
def attention (e : Fin 1024) : EReal := ∑ d, row I.oc I.ol b r d * I.aw (ix2 d e)
/-- The projection of the convolution branch. -/
def convolution (e : Fin 1024) : EReal := ∑ d : Fin 256, I.cv (ix3 b r d) * I.cw (ix2 d e)
/-- Half a gate. -/
def halfGate (k : Fin 4) (e : Fin 1024) : EReal := I.proj (ix3 b r ⟨k.val * 1024 + e.val, by omega⟩)
/-- The weighted sum of the branches. -/
def mixed (e : Fin 1024) : EReal :=
  sigmoidTwice (halfGate I b r 0 e) * fourier I b r e + sigmoidTwice (halfGate I b r 1 e) * retention I b r e
    + sigmoidTwice (halfGate I b r 2 e) * attention I b r e + sigmoidTwice (halfGate I b r 3 e) * convolution I b r e
/-- The new residual row. -/
def residual (e : Fin 1024) : EReal :=
  I.h (ix3 b r e) + modAt I.mc I.ml 2 b r e * ∑ j : Fin 1024, mixed I b r j * I.wo (ix2 j e)
/-- The row for the feed-forward part. -/
def forFeed (e : Fin 1024) : EReal :=
  Cert.NormProject.prepared (residual I b r) (fun k => I.ng (ix1 k)) (modAt I.mc I.ml 4 b r) (modAt I.mc I.ml 3 b r) e

/-- Sixty-four. -/
theorem ofBits_64 : Ideal.ofBits .f32 0x42800000#32 = ((64 : ℝ) : EReal) := by
  simp [Ideal.ofBits, Ideal.ieee, -EReal.coe_mul]; norm_num

/-- One sixty-fourth. -/
theorem ofBits_inv64 : Ideal.ofBits .f32 0x3C800000#32 = ((1 / 64 : ℝ) : EReal) := by
  simp [Ideal.ofBits, Ideal.ieee, -EReal.coe_mul]; norm_num

/-- One more than the hyperbolic tangent is twice the sigmoid of the double. -/
theorem tanh_add_one (x : EReal) : Ideal.tanh x + 1 = ((2 : ℝ) : EReal) * sigmoidTwice x := by
  unfold sigmoidTwice
  induction x with
  | bot =>
    have h1 : ((2 : ℝ) : EReal) * ⊥ = ⊥ := EReal.coe_mul_bot_of_pos (by norm_num)
    rw [h1]
    show (-1 : EReal) + 1 = ((2 : ℝ) : EReal) * Ideal.div 1 (1 + Ideal.exp (-⊥))
    rw [EReal.neg_bot, show Ideal.exp ⊤ = ⊤ from rfl, EReal.add_top_of_ne_bot (by decide)]
    unfold Ideal.div
    rw [if_neg (by decide), EReal.inv_top, mul_zero, mul_zero]
    have e : ((-1 : ℝ) : EReal) + ((1 : ℝ) : EReal) = ((0 : ℝ) : EReal) := by rw [← EReal.coe_add]; norm_num
    rwa [EReal.coe_neg, EReal.coe_one, EReal.coe_zero] at e
  | top =>
    have h1 : ((2 : ℝ) : EReal) * ⊤ = ⊤ := EReal.coe_mul_top_of_pos (by norm_num)
    rw [h1]
    show (1 : EReal) + 1 = ((2 : ℝ) : EReal) * Ideal.div 1 (1 + Ideal.exp (-⊤))
    rw [EReal.neg_top, show Ideal.exp ⊥ = 0 from rfl, add_zero]
    unfold Ideal.div
    have hi : (1 : EReal)⁻¹ = 1 := by rw [← EReal.coe_one, ← EReal.coe_inv, inv_one]
    rw [if_neg one_ne_zero, hi, mul_one, mul_one, ← EReal.coe_one, ← EReal.coe_add]
    norm_num
  | coe x =>
    have h0 : (1 + Real.exp (-(2 * x))) ≠ 0 := by positivity
    have e1 : (1 : EReal) + Ideal.exp (-(((2 : ℝ) : EReal) * (x : EReal))) = ((1 + Real.exp (-(2 * x)) : ℝ) : EReal) := by
      rw [← EReal.coe_mul, ← EReal.coe_neg]
      show (1 : EReal) + ((Real.exp (-(2 * x)) : ℝ) : EReal) = _
      rw [EReal.coe_add, EReal.coe_one]
    rw [e1]
    unfold Ideal.div
    rw [if_neg (by exact_mod_cast h0), ← EReal.coe_inv, one_mul, ← EReal.coe_mul]
    show ((Real.tanh x : ℝ) : EReal) + 1 = _
    rw [← EReal.coe_one, ← EReal.coe_add]
    refine congrArg _ ?_
    rw [Real.tanh_eq_sinh_div_cosh, Real.sinh_eq, Real.cosh_eq]
    have h2 : Real.exp (-(2 * x)) = Real.exp (-x) * Real.exp (-x) := by rw [← Real.exp_add]; congr 1; ring
    have h3 : Real.exp x * Real.exp (-x) = 1 := by rw [← Real.exp_add]; simp
    have p1 := Real.exp_pos x
    have p2 := Real.exp_pos (-x)
    rw [h2]
    field_simp
    nlinarith [h3]

/-- Twice a sum of four. -/
theorem twice_add (x y z w : EReal) : ((2 : ℝ) : EReal) * (x + y + z + w)
    = ((2 : ℝ) : EReal) * x + ((2 : ℝ) : EReal) * y + ((2 : ℝ) : EReal) * z + ((2 : ℝ) : EReal) * w := by
  have h : ∀ x y : EReal, ((2 : ℝ) : EReal) * (x + y) = ((2 : ℝ) : EReal) * x + ((2 : ℝ) : EReal) * y := fun x y =>
    EReal.left_distrib_of_nonneg_of_ne_top (by exact_mod_cast (by norm_num : (0 : ℝ) ≤ 2)) (EReal.coe_ne_top _) x y
  rw [h, h, h]

/-- The doubled weighted sum against the halved weights is the weighted sum against the weights. -/
theorem double_half (x w : EReal) : (((2 : ℝ) : EReal) * x) * (((1 / 2 : ℝ) : EReal) * w) = x * w := by
  rw [mul_mul_mul_comm, ← EReal.coe_mul, show (2 : ℝ) * (1 / 2) = 1 by norm_num, EReal.coe_one, one_mul]

/-- The kernel's sum of the branches, doubled. -/
theorem mixed_double (e : Fin 1024) :
    (Ideal.tanh (halfGate I b r 0 e) + 1) * fourier I b r e + (Ideal.tanh (halfGate I b r 1 e) + 1) * retention I b r e
      + (Ideal.tanh (halfGate I b r 2 e) + 1) * attention I b r e + (Ideal.tanh (halfGate I b r 3 e) + 1) * convolution I b r e
    = ((2 : ℝ) : EReal) * mixed I b r e := by
  unfold mixed
  rw [twice_add]
  simp only [tanh_add_one, mul_assoc]

/-- The kernel's mean square of a head, from a product with the matrix of ones on the heads' blocks, of a row of real numbers. -/
theorem head_mean (o : Fin 256 → EReal) (x : Fin 256 → ℝ) (hx : ∀ k, o k = (x k : EReal)) (d : Fin 256) :
    ((∑ k : Fin 256, o k * o k * (if k.val / 64 = d.val / 64 then 1 else 0))
        + ∑ k : Fin 256, (o k * o k - o k * o k) * (if k.val / 64 = d.val / 64 then 1 else 0)) * Ideal.ofBits .f32 0x3C800000#32
    = Ideal.div (∑ k : Fin 64, o (inHead d k) * o (inHead d k)) (Ideal.ofBits .f32 0x42800000#32) := by
  have hz : ∀ k, o k * o k - o k * o k = 0 := fun k => by
    rw [hx, ← EReal.coe_mul, ← EReal.coe_sub, sub_self, EReal.coe_zero]
  simp only [hz, zero_mul, Finset.sum_const_zero, add_zero]
  have hs : (∑ k : Fin 256, o k * o k * (if k.val / 64 = d.val / 64 then (1 : EReal) else 0)) = ∑ k : Fin 64, o (inHead d k) * o (inHead d k) := by
    rw [← (finProdFinEquiv (m := 4) (n := 64)).sum_comp, Fintype.sum_prod_type, Finset.sum_eq_single (⟨d.val / 64, by omega⟩ : Fin 4)]
    · refine Finset.sum_congr rfl fun k _ => ?_
      have hk : (finProdFinEquiv (m := 4) (n := 64) (⟨d.val / 64, by omega⟩, k) : Fin 256) = inHead d k :=
        Fin.ext (by show k.val + 64 * (d.val / 64) = d.val / 64 * 64 + k.val; omega)
      have hq : (inHead d k).val / 64 = d.val / 64 := by show (d.val / 64 * 64 + k.val) / 64 = _; omega
      rw [hk, if_pos hq, mul_one]
    · intro a _ ha
      refine Finset.sum_eq_zero fun k _ => ?_
      have hq : ¬ (finProdFinEquiv (m := 4) (n := 64) (a, k) : Fin 256).val / 64 = d.val / 64 := by
        show ¬ (k.val + 64 * a.val) / 64 = _
        have : a.val ≠ d.val / 64 := fun h => ha (Fin.ext h)
        omega
      rw [if_neg hq, mul_zero]
    · exact fun h => absurd (Finset.mem_univ _) h
  rw [hs, ofBits_64, ofBits_inv64]
  unfold Ideal.div
  rw [if_neg (by exact_mod_cast (by norm_num : (64 : ℝ) ≠ 0)), ← EReal.coe_inv]
  norm_num

end Cert.GatedMerge

end
-- ==== Proof.Merge.Payloads.lean ====
/-
  What the merge kernel computes of its blocks, index by index.
-/
module

public import proofs.«01_k».proof.Proof.GatedMerge
public import proofs.«01_k».proof.Proof.Gen.MergeIdeal.Skeleton
public import Idealize.ShloMosaic.Lib.Pointwise

@[expose] public section

set_option maxRecDepth 16384

noncomputable section

namespace Cert.MergeIdeal.Out

open Cert.MergeIdeal Cert.MergeIdeal.Gen Idealize.ShloMosaic
open Cert.GatedMerge

/-- Whether a tile of 256 rows is the first of its sequence. -/
def firstTile (k : ℕ) : BitVec 1 := Scalar.cmpi .slt (Scalar.muli (BitVec.ofNat 32 k) 256#32) 256#32

/-- A choice by it. -/
theorem choose_tile {α : Type} (k : ℕ) (hk : k < 33) (a b : α) : Scalar.select (firstTile k) a b = if k = 0 then a else b := by
  have h : (BitVec.ofNat 32 (k * 256)).slt 256#32 = decide (k = 0) := by
    rw [BitVec.slt, BitVec.toInt_eq_toNat_cond, BitVec.toNat_ofNat, Nat.mod_eq_of_lt (by omega), if_pos (by omega)]
    show decide (((k * 256 : ℕ) : ℤ) < 256) = _
    exact decide_eq_decide.2 (by omega)
  have e : firstTile k = BitVec.ofBool ((BitVec.ofNat 32 (k * 256)).slt 256#32) := by
    rw [BitVec.ofNat_mul]
    rfl
  rw [e, h]
  by_cases hc : k = 0
  · rw [if_pos hc, decide_eq_true hc]
    rfl
  · rw [if_neg hc, decide_eq_false hc]
    rfl

/-- The Fourier branch's projection. -/
theorem fourier_block (i : grid0.Coords) (yc yl : Vec Ideal S1x256x256 .bf16) (w : Vec Ideal S256x1024 .bf16) (r : Fin 256) (e : Fin 1024) :
    k0_pay4 i yc yl w (ix2 r e) = ∑ d : Fin 256, (if (i 1).val = 0 then yc (ix3 0 r d) else yl (ix3 0 r d)) * w (ix2 d e) := by
  unfold k0_pay4
  dsimp only
  rw [show Scalar.cmpi .slt (Scalar.muli (BitVec.ofNat 32 (i 1).val) 256#32) 256#32 = firstTile (i 1).val from rfl, choose_tile _ (i 1).isLt]
  by_cases h : (i 1).val = 0
  · simp only [if_pos h]
    pointwise
  · simp only [if_neg h]
    pointwise

/-- The attention branch's projection. -/
theorem attention_block (k : ℕ) (hk : k < 33) (oc ol : Vec Ideal S1x256x512 .bf16) (w : Vec Ideal S512x1024 .bf16) (r : Fin 256) (e : Fin 1024) :
    k0_pay8 (firstTile k) oc ol w (ix2 r e) = ∑ d : Fin 512, (if k = 0 then oc (ix3 0 r d) else ol (ix3 0 r d)) * w (ix2 d e) := by
  unfold k0_pay8
  rw [choose_tile _ hk]
  by_cases h : k = 0
  · simp only [if_pos h]
    pointwise
  · simp only [if_neg h]
    pointwise

/-- The convolution branch's projection. -/
theorem convolution_block (cv : Vec Ideal S1x256x256 .bf16) (w : Vec Ideal S256x1024 .bf16) (r : Fin 256) (e : Fin 1024) :
    k0_pay9 cv w (ix2 r e) = ∑ d : Fin 256, cv (ix3 0 r d) * w (ix2 d e) := by
  unfold k0_pay9
  pointwise

/-- The modulation's vectors. -/
theorem modulation_block (k : ℕ) (hk : k < 33) (mc : Vec Ideal S6x1024 .f32) (ml : Vec Ideal S1x6x1024 .f32) (a : Fin 6) (e : Fin 1024) :
    k0_pay11 mc (k0_pay3 ml) (firstTile k) (ix2 a e) = if k = 0 then mc (ix2 a e) else ml (ix3 0 a e) := by
  unfold k0_pay11 k0_pay3
  dsimp only
  rw [choose_tile _ hk]
  by_cases h : k = 0
  · simp only [if_pos h]
  · simp only [if_neg h]
    pointwise

/-- The retention's mean squares, of sums that are real numbers. -/
theorem mean_block (f g : Vec Ideal S1x256x256 .f32) (bd : Vec Ideal S256x256 .bf16) (r : Fin 256) (d : Fin 256) (x : Fin 256 → ℝ)
    (hx : ∀ k, f (ix3 0 r k) + g (ix3 0 r k) = (x k : EReal))
    (hbd : ∀ k d : Fin 256, bd (ix2 k d) = if k.val / 64 = d.val / 64 then 1 else 0) :
    k0_pay6 f g bd (ix2 r d) = Ideal.div (∑ k : Fin 64, (f (ix3 0 r (inHead d k)) + g (ix3 0 r (inHead d k))) * (f (ix3 0 r (inHead d k)) + g (ix3 0 r (inHead d k))))
      (Ideal.ofBits .f32 0x42800000#32) := by
  rw [← head_mean (fun k => f (ix3 0 r k) + g (ix3 0 r k)) x hx d]
  unfold k0_pay6 k0_pay5
  pointwise [hbd]

/-- The retention branch's projection. -/
theorem retention_block (f g : Vec Ideal S1x256x256 .f32) (bd : Vec Ideal S256x256 .bf16) (rg : Vec Ideal S1x256 .f32) (p : Vec Ideal S1x256x256 .bf16)
    (w : Vec Ideal S256x1024 .bf16) (r : Fin 256) (e : Fin 1024) (x : Fin 256 → ℝ)
    (hx : ∀ k, f (ix3 0 r k) + g (ix3 0 r k) = (x k : EReal))
    (hbd : ∀ k d : Fin 256, bd (ix2 k d) = if k.val / 64 = d.val / 64 then 1 else 0) :
    k0_pay7 (k0_pay5 f g) (k0_pay6 f g bd) (Scalar.ofBits .f32 0x358637BD#32) rg p w (ix2 r e)
      = ∑ d : Fin 256, headNormed (fun k => f (ix3 0 r k) + g (ix3 0 r k)) (fun k => rg (ix2 0 k)) d * Cert.Swiglu.swish (p (ix3 0 r d)) * w (ix2 d e) := by
  have hm : ∀ d, k0_pay6 f g bd (ix2 r d) = _ := fun d => mean_block f g bd r d x hx hbd
  have h5 : ∀ d, k0_pay5 f g (ix2 r d) = f (ix3 0 r d) + g (ix3 0 r d) := fun d => by
    unfold k0_pay5
    pointwise
  unfold k0_pay7
  pointwise
  simp only [hm, h5]
  rfl

/-- The new residual rows, of the projections and of the weights halved. -/
theorem residual_block (k : ℕ) (hk : k < 33) (mc : Vec Ideal S6x1024 .f32) (ml : Vec Ideal S1x6x1024 .f32) (y0 y1 y2 y3 : FVec Ideal S256x1024 .f32)
    (g0 g1 g2 g3 : Vec Ideal S1x256x1024 .bf16) (wo : Vec Ideal S1024x1024 .bf16) (h : Vec Ideal S1x256x1024 .f32) (r : Fin 256) (e : Fin 1024) :
    k0_pay12 mc (k0_pay3 ml) (firstTile k) y0 y1 y2 y3 (k0_pay10 g0) g1 g2 g3 wo h (ix2 r e)
      = h (ix3 0 r e) + (if k = 0 then mc (ix2 2 e) else ml (ix3 0 2 e)) * ∑ j : Fin 1024,
        ((Ideal.tanh (g0 (ix3 0 r j)) + 1) * y0 (ix2 r j) + (Ideal.tanh (g1 (ix3 0 r j)) + 1) * y1 (ix2 r j)
          + (Ideal.tanh (g2 (ix3 0 r j)) + 1) * y2 (ix2 r j) + (Ideal.tanh (g3 (ix3 0 r j)) + 1) * y3 (ix2 r j)) * wo (ix2 j e) := by
  have hm := modulation_block k hk mc ml
  unfold k0_pay12 k0_pay10
  pointwise
  rw [hm]

/-- The stored rows. -/
theorem stored_block (x : FVec Ideal S256x1024 .f32) (r : Fin 256) (e : Fin 1024) : k0_pay1 x (ix3 0 r e) = x (ix2 r e) := by
  unfold k0_pay1
  pointwise

/-- The rows for the feed-forward part. -/
theorem feed_block (k : ℕ) (hk : k < 33) (mc : Vec Ideal S6x1024 .f32) (ml : Vec Ideal S1x6x1024 .f32) (x : FVec Ideal S256x1024 .f32)
    (g : Vec Ideal S1x1024 .f32) (r : Fin 256) (e : Fin 1024) :
    k0_pay2 (k0_pay11 mc (k0_pay3 ml) (firstTile k)) x g (ix3 0 r e)
      = Cert.NormProject.prepared (fun d => x (ix2 r d)) (fun d => g (ix2 0 d)) (fun d => if k = 0 then mc (ix2 4 d) else ml (ix3 0 4 d))
        (fun d => if k = 0 then mc (ix2 3 d) else ml (ix3 0 3 d)) e := by
  have hm := modulation_block k hk mc ml
  unfold k0_pay2
  pointwise
  rw [hm, hm]
  rfl

end Cert.MergeIdeal.Out

end
-- ==== Proof.Merge.Host.lean ====
/-
  The arrays the merge's host code passes the kernel.
-/
module

public import proofs.«01_k».proof.Proof.GatedMerge
public import proofs.«01_k».proof.Proof.Gen.MergeIdeal.Frame.Runs
public import Idealize.ShloMosaic.Lib.Pipeline.ValueKit
public import Idealize.ShloMosaic.Lib.Pointwise

@[expose] public section

set_option maxRecDepth 16384

noncomputable section

namespace Cert.MergeIdeal.Out

open Cert.MergeIdeal Cert.MergeIdeal.Gen Idealize.ShloMosaic Idealize.ShloMosaic.TcCoe Idealize.SL.Sem
open Cert.GatedMerge

variable (m : (ℓ : Loc nD τ sig) → Buf (Elt Ideal) ℓ) (c : Dev nD)

/-- What the merge is given. -/
def given : Inputs where
  h := m ((c : Thread nD τ).loc main_arg0)
  mc := m ((c : Thread nD τ).loc main_arg1)
  ml := m ((c : Thread nD τ).loc main_arg2)
  yl := m ((c : Thread nD τ).loc main_arg3)
  yc := m ((c : Thread nD τ).loc main_arg4)
  fwd := m ((c : Thread nD τ).loc main_arg5)
  bwd := m ((c : Thread nD τ).loc main_arg6)
  proj := m ((c : Thread nD τ).loc main_arg7)
  ol := m ((c : Thread nD τ).loc main_arg8)
  oc := m ((c : Thread nD τ).loc main_arg9)
  cv := m ((c : Thread nD τ).loc main_arg10)
  fw := m ((c : Thread nD τ).loc main_arg11)
  rg := m ((c : Thread nD τ).loc main_arg12)
  rw := m ((c : Thread nD τ).loc main_arg13)
  aw := m ((c : Thread nD τ).loc main_arg14)
  cw := m ((c : Thread nD τ).loc main_arg15)
  wo := m ((c : Thread nD τ).loc main_arg16)
  ng := m ((c : Thread nD τ).loc main_arg17)

/-- The matrix of ones on the heads' blocks, from iotas. -/
def ones : FVec Ideal S256x256 .bf16 :=
  truncf .bf16 (shapeCast S256x256 (select (cmpi .eq (iotaInDim S4x64x4x64 32 0) (iotaInDim S4x64x4x64 32 2))
    (broadcastInDim S4x64x4x64 ![] bcast_S_S4x64x4x64 (constant (F := Ideal) S_ .f32 0x3F800000#32))
    (broadcastInDim S4x64x4x64 ![] bcast_S_S4x64x4x64 (constant (F := Ideal) S_ .f32 0x00000000#32))) shapeCasts_S4x64x4x64_S256x256) bitsLt_bf16_f32

/-- The host code computes it. -/
theorem ones_eq : V m c main_v11 = ones := by
  unfold V hostOps0 hostOps0_1 hostOps0_2
  after_results_simp <;> (try dsimp only [Matrix.cons_val]) <;> (try after_results_simp) <;> rfl

/-- Two small numbers' words are one where they are. -/
theorem choose_head (a b : ℕ) (ha : a < 4) (hb : b < 4) (x y : EReal) :
    Scalar.select (IntOp.cmpi CmpIPredicate.eq (BitVec.ofNat 32 a) (BitVec.ofNat 32 b)) x y = if a = b then x else y := by
  interval_cases a <;> interval_cases b <;> rfl

/-- Its entries. -/
theorem ones_at (k d : Fin 256) : ones (ix2 k d) = if k.val / 64 = d.val / 64 then 1 else 0 := by
  unfold ones
  pointwise
  have hk := k.isLt
  have hd := d.isLt
  exact choose_head _ _ (by omega) (by omega) _ _

/-- The retention's weights as the kernel is passed them. -/
theorem rg_eq (k : Fin 256) : V m c main_v13 (ix2 0 k) = (given m c).rg (ix1 k) := by
  have h : V m c main_v13 = shapeCast S1x256 (m ((c : Thread nD τ).loc main_arg12)) shapeCasts_S256_S1x256 := by
    unfold V hostOps0 hostOps0_1 hostOps0_2
    after_results_simp <;> rfl
  rw [h]
  pointwise
  rfl

/-- The normalization's weights as the kernel is passed them. -/
theorem ng_eq (k : Fin 1024) : V m c main_v20 (ix2 0 k) = (given m c).ng (ix1 k) := by
  have h : V m c main_v20 = shapeCast S1x1024 (m ((c : Thread nD τ).loc main_arg17)) shapeCasts_S1024_S1x1024 := by
    unfold V hostOps0 hostOps0_1 hostOps0_2
    after_results_simp <;> rfl
  rw [h]
  pointwise
  rfl

/-- Half the output weights. -/
def halved (w : FVec Ideal S1024x1024 .f32) : FVec Ideal S1024x1024 .bf16 :=
  truncf .bf16 (mulf (broadcastInDim S1024x1024 ![] bcast_S_S1024x1024 (constant S_ .f32 0x3F000000#32)) w) bitsLt_bf16_f32

/-- They are what the kernel is passed. -/
theorem halved_eq (j e : Fin 1024) : V m c main_v19 (ix2 j e) = ((1 / 2 : ℝ) : EReal) * (given m c).wo (ix2 j e) := by
  have h : V m c main_v19 = halved (given m c).wo := by
    unfold V hostOps0 hostOps0_1 hostOps0_2
    after_results_simp <;> rfl
  rw [h]
  unfold halved
  pointwise [Cert.NormProject.ofBits_half]

end Cert.MergeIdeal.Out

end
-- ==== Proof.Merge.Blocks.lean ====
/-
  The blocks of the merge kernel's windows, index by index.
-/
module

public import proofs.«01_k».proof.Proof.Merge.Host
public import proofs.«01_k».proof.Proof.Gen.MergeIdeal.Frame.Runs
public import Idealize.ShloMosaic.Lib.Pipeline.ValueKit
public import Idealize.ShloMosaic.Lib.Pointwise

@[expose] public section

set_option maxRecDepth 16384

noncomputable section

namespace Cert.MergeIdeal.Out

open Cert.MergeIdeal Cert.MergeIdeal.Gen Idealize.ShloMosaic Idealize.ShloMosaic.TcCoe Idealize.SL.Sem
open Cert.GatedMerge

variable (m : (ℓ : Loc nD τ sig) → Buf (Elt Ideal) ℓ) (c : Dev nD)

variable (t : Fin grid0.N)

/-- The point's number. -/
theorem point_lt : t.val < 66 := t.isLt.trans_eq N_0

/-- The sequence a point's tile is of. -/
def seqOf : Fin 2 := ⟨t.val / 33, by have := point_lt t; omega⟩
/-- A row of a point's tile. -/
def rowOf (r : Fin 256) : Fin 8448 := ⟨t.val % 33 * 256 + r.val, by have := r.isLt; omega⟩

/-- The block of window 0 a point takes. -/
theorem idx0 : ∀ t : Fin grid0.N, win0_0.index t = ![t.val / 33, t.val % 33, 0] := by decide +kernel

/-- The block of window 1 a point takes. -/
theorem idx1 : ∀ t : Fin grid0.N, win0_1.index t = ![0, 0] := by decide +kernel

/-- The block of window 2 a point takes. -/
theorem idx2 : ∀ t : Fin grid0.N, win0_2.index t = ![t.val / 33, 0, 0] := by decide +kernel

/-- The block of window 3 a point takes. -/
theorem idx3 : ∀ t : Fin grid0.N, win0_3.index t = ![t.val / 33, t.val % 33 - 1, 0] := by decide +kernel

/-- The block of window 4 a point takes. -/
theorem idx4 : ∀ t : Fin grid0.N, win0_4.index t = ![t.val / 33, 0, 0] := by decide +kernel

/-- The block of window 5 a point takes. -/
theorem idx5 : ∀ t : Fin grid0.N, win0_5.index t = ![t.val / 33, t.val % 33, 0] := by decide +kernel

/-- The block of window 6 a point takes. -/
theorem idx6 : ∀ t : Fin grid0.N, win0_6.index t = ![t.val / 33, t.val % 33, 0] := by decide +kernel

/-- The block of window 7 a point takes. -/
theorem idx7 : ∀ t : Fin grid0.N, win0_7.index t = ![t.val / 33, t.val % 33, 24] := by decide +kernel

/-- The block of window 8 a point takes. -/
theorem idx8 : ∀ t : Fin grid0.N, win0_8.index t = ![t.val / 33, t.val % 33 - 1, 0] := by decide +kernel

/-- The block of window 9 a point takes. -/
theorem idx9 : ∀ t : Fin grid0.N, win0_9.index t = ![t.val / 33, 0, 0] := by decide +kernel

/-- The block of window 10 a point takes. -/
theorem idx10 : ∀ t : Fin grid0.N, win0_10.index t = ![t.val / 33, t.val % 33, 0] := by decide +kernel

/-- The block of window 11 a point takes. -/
theorem idx11 : ∀ t : Fin grid0.N, win0_11.index t = ![t.val / 33, t.val % 33, 0] := by decide +kernel

/-- The block of window 12 a point takes. -/
theorem idx12 : ∀ t : Fin grid0.N, win0_12.index t = ![0, 0] := by decide +kernel

/-- The block of window 13 a point takes. -/
theorem idx13 : ∀ t : Fin grid0.N, win0_13.index t = ![0, 0] := by decide +kernel

/-- The block of window 14 a point takes. -/
theorem idx14 : ∀ t : Fin grid0.N, win0_14.index t = ![0, 0] := by decide +kernel

/-- The block of window 15 a point takes. -/
theorem idx15 : ∀ t : Fin grid0.N, win0_15.index t = ![0, 0] := by decide +kernel

/-- The block of window 16 a point takes. -/
theorem idx16 : ∀ t : Fin grid0.N, win0_16.index t = ![0, 0] := by decide +kernel

/-- The block of window 17 a point takes. -/
theorem idx17 : ∀ t : Fin grid0.N, win0_17.index t = ![0, 0] := by decide +kernel

/-- The block of window 18 a point takes. -/
theorem idx18 : ∀ t : Fin grid0.N, win0_18.index t = ![0, 0] := by decide +kernel

/-- The block of window 19 a point takes. -/
theorem idx19 : ∀ t : Fin grid0.N, win0_19.index t = ![0, 0] := by decide +kernel

/-- The block of window 20 a point takes. -/
theorem idx20 : ∀ t : Fin grid0.N, win0_20.index t = ![t.val / 33, t.val % 33, 0] := by decide +kernel

/-- The block of window 21 a point takes. -/
theorem idx21 : ∀ t : Fin grid0.N, win0_21.index t = ![t.val / 33, t.val % 33, 0] := by decide +kernel

/-- A point's second coordinate. -/
theorem coord : ∀ t : Fin grid0.N, (grid0.coords t 1).val = t.val % 33 := by decide +kernel

/-- A row of the latents, in the tile before a point's. -/
def latent (r : Fin 256) : Fin 8192 := ⟨(t.val % 33 - 1) * 256 + r.val, by have := r.isLt; omega⟩

/-- The old residual rows. -/
theorem blk0 (r : Fin 256) (e : Fin 1024) : iblk m c 0 t (ix3 0 r e) = (given m c).h (ix3 (seqOf t) (rowOf t r) e) := by
  blk_ext [iblk, V, given, seqOf, rowOf, latent, idx0 t]

/-- The shared modulation. -/
theorem blk1 (a : Fin 6) (e : Fin 1024) : iblk m c 1 t (ix2 a e) = (given m c).mc (ix2 a e) := by
  blk_ext [iblk, V, given, seqOf, rowOf, latent, idx1 t]

/-- The sequence's modulation. -/
theorem blk2 (a : Fin 6) (e : Fin 1024) : iblk m c 2 t (ix3 0 a e) = (given m c).ml (ix3 (seqOf t) a e) := by
  blk_ext [iblk, V, given, seqOf, rowOf, latent, idx2 t]

/-- The latents' Fourier rows. -/
theorem blk3 (r d : Fin 256) : iblk m c 3 t (ix3 0 r d) = (given m c).yl (ix3 (seqOf t) (latent t r) d) := by
  blk_ext [iblk, V, given, seqOf, rowOf, latent, idx3 t]

/-- The context's Fourier rows. -/
theorem blk4 (r d : Fin 256) : iblk m c 4 t (ix3 0 r d) = (given m c).yc (ix3 (seqOf t) r d) := by
  blk_ext [iblk, V, given, seqOf, rowOf, latent, idx4 t]

/-- The forward sums. -/
theorem blk5 (r d : Fin 256) : iblk m c 5 t (ix3 0 r d) = (given m c).fwd (ix3 (seqOf t) (rowOf t r) d) := by
  blk_ext [iblk, V, given, seqOf, rowOf, latent, idx5 t]

/-- The backward sums. -/
theorem blk6 (r d : Fin 256) : iblk m c 6 t (ix3 0 r d) = (given m c).bwd (ix3 (seqOf t) (rowOf t r) d) := by
  blk_ext [iblk, V, given, seqOf, rowOf, latent, idx6 t]

/-- The retention's gates. -/
theorem blk7 (r d : Fin 256) : iblk m c 7 t (ix3 0 r d) = (given m c).proj (ix3 (seqOf t) (rowOf t r) ⟨6144 + d.val, by omega⟩) := by
  blk_ext [iblk, V, given, seqOf, rowOf, latent, idx7 t]

/-- The latents' attention rows. -/
theorem blk8 (r : Fin 256) (d : Fin 512) : iblk m c 8 t (ix3 0 r d) = (given m c).ol (ix3 (seqOf t) (latent t r) d) := by
  blk_ext [iblk, V, given, seqOf, rowOf, latent, idx8 t]

/-- The context's attention rows. -/
theorem blk9 (r : Fin 256) (d : Fin 512) : iblk m c 9 t (ix3 0 r d) = (given m c).oc (ix3 (seqOf t) r d) := by
  blk_ext [iblk, V, given, seqOf, rowOf, latent, idx9 t]

/-- The convolution's rows. -/
theorem blk10 (r d : Fin 256) : iblk m c 10 t (ix3 0 r d) = (given m c).cv (ix3 (seqOf t) (rowOf t r) d) := by
  blk_ext [iblk, V, given, seqOf, rowOf, latent, idx10 t]

/-- The gates' halves. -/
theorem blk11 (r : Fin 256) (j : Fin 4096) : X0_11 m c t (ix3 0 r j) = (given m c).proj (ix3 (seqOf t) (rowOf t r) ⟨j.val, by omega⟩) := by
  unfold X0_11 Pipeline.Window.fill
  rw [dif_pos (moved0_11 t _)]
  blk_ext [iblk, V, given, seqOf, rowOf, idx11 t]

/-- The Fourier branch's weights. -/
theorem blk12 (d : Fin 256) (e : Fin 1024) : iblk m c 12 t (ix2 d e) = (given m c).fw (ix2 d e) := by
  blk_ext [iblk, V, given, seqOf, rowOf, latent, idx12 t]

/-- The retention's norm's weights. -/
theorem blk13 (d : Fin 256) : iblk m c 13 t (ix2 0 d) = (given m c).rg (ix1 d) := by
  rw [← rg_eq]
  blk_ext [iblk, idx13 t]

/-- The retention branch's weights. -/
theorem blk14 (d : Fin 256) (e : Fin 1024) : iblk m c 14 t (ix2 d e) = (given m c).rw (ix2 d e) := by
  blk_ext [iblk, V, given, seqOf, rowOf, latent, idx14 t]

/-- The attention branch's weights. -/
theorem blk15 (d : Fin 512) (e : Fin 1024) : iblk m c 15 t (ix2 d e) = (given m c).aw (ix2 d e) := by
  blk_ext [iblk, V, given, seqOf, rowOf, latent, idx15 t]

/-- The convolution branch's weights. -/
theorem blk16 (d : Fin 256) (e : Fin 1024) : iblk m c 16 t (ix2 d e) = (given m c).cw (ix2 d e) := by
  blk_ext [iblk, V, given, seqOf, rowOf, latent, idx16 t]

/-- Half the output weights. -/
theorem blk17 (j e : Fin 1024) : iblk m c 17 t (ix2 j e) = ((1 / 2 : ℝ) : EReal) * (given m c).wo (ix2 j e) := by
  rw [← halved_eq]
  blk_ext [iblk, idx17 t]

/-- The second norm's weights. -/
theorem blk18 (d : Fin 1024) : iblk m c 18 t (ix2 0 d) = (given m c).ng (ix1 d) := by
  rw [← ng_eq]
  blk_ext [iblk, idx18 t]

/-- The ones on the heads' blocks. -/
theorem blk19 (k d : Fin 256) : iblk m c 19 t (ix2 k d) = ones (ix2 k d) := by
  rw [← ones_eq m c]
  blk_ext [iblk, idx19 t]

end Cert.MergeIdeal.Out

end
-- ==== Proof.Merge.Output.lean ====
/-
  The merge call's two result arrays, index by index.
-/
module

public import proofs.«01_k».proof.Proof.Merge.Payloads
public import proofs.«01_k».proof.Proof.Merge.Blocks
public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.MergeIdeal.Out

open Cert.MergeIdeal Cert.MergeIdeal.Gen Idealize.ShloMosaic Idealize.ShloMosaic.TcCoe Idealize.SL.Sem
open Cert.GatedMerge

variable (m : (ℓ : Loc nD τ sig) → Buf (Elt Ideal) ℓ) (c : Dev nD)

/-- A tile's row of the context's rows or the latents'. -/
theorem row_tile {n : ℕ} (x : Cube 2 256 n) (l : Cube 2 8192 n) (b : Fin 2) (k : ℕ) (hk : k < 33) (r : Fin 256) (d : Fin n) :
    row x l b ⟨k * 256 + r.val, by omega⟩ d = if k = 0 then x (ix3 b r d) else l (ix3 b ⟨(k - 1) * 256 + r.val, by omega⟩ d) := by
  unfold row
  have hr := r.isLt
  by_cases h : k = 0
  · subst h
    rw [if_pos rfl, dif_pos (by dsimp only; omega)]
    exact congrArg (fun q => x (ix3 b q d)) (Fin.ext (by dsimp only; omega))
  · rw [if_neg h, dif_neg (by dsimp only; omega)]
    exact congrArg (fun q => l (ix3 b q d)) (Fin.ext (by dsimp only; omega))

/-- A tile's modulation. -/
theorem mod_tile (mc : Mat 6 1024) (ml : Cube 2 6 1024) (a : Fin 6) (b : Fin 2) (k : ℕ) (hk : k < 33) (r : Fin 256) (e : Fin 1024) :
    modAt mc ml a b ⟨k * 256 + r.val, by omega⟩ e = if k = 0 then mc (ix2 a e) else ml (ix3 b a e) := by
  unfold modAt
  have hr := r.isLt
  by_cases h : k = 0
  · rw [if_pos h, if_pos (by dsimp only; omega)]
  · rw [if_neg h, if_neg (by dsimp only; omega)]

variable (t : Fin grid0.N)

/-- The residual rows of a point's tile. -/
def tileRows : FVec Ideal S256x1024 .f32 :=
  k0_pay12 (iblk m c 1 t) (k0_pay3 (iblk m c 2 t)) (firstTile (grid0.coords t 1).val)
    (k0_pay4 (grid0.coords t) (iblk m c 4 t) (iblk m c 3 t) (iblk m c 12 t))
    (k0_pay7 (k0_pay5 (iblk m c 5 t) (iblk m c 6 t)) (k0_pay6 (iblk m c 5 t) (iblk m c 6 t) (iblk m c 19 t))
      (Scalar.ofBits .f32 0x358637BD#32) (iblk m c 13 t) (iblk m c 7 t) (iblk m c 14 t))
    (k0_pay8 (firstTile (grid0.coords t 1).val) (iblk m c 9 t) (iblk m c 8 t) (iblk m c 15 t))
    (k0_pay9 (iblk m c 10 t) (iblk m c 16 t))
    (k0_pay10 (View.ld (X0_11 m c t) (Rect.unit ![0, 0, 0] ![1, 256, 1024] inb_S1x256x4096_S1x256x1024_0_0_0)))
    (View.ld (X0_11 m c t) (Rect.unit ![0, 0, 1024] ![1, 256, 1024] inb_S1x256x4096_S1x256x1024_0_0_1024))
    (View.ld (X0_11 m c t) (Rect.unit ![0, 0, 2048] ![1, 256, 1024] inb_S1x256x4096_S1x256x1024_0_0_2048))
    (View.ld (X0_11 m c t) (Rect.unit ![0, 0, 3072] ![1, 256, 1024] inb_S1x256x4096_S1x256x1024_0_0_3072))
    (iblk m c 17 t) (iblk m c 0 t)

/-- The four gates' halves. -/
theorem gate_blocks (r : Fin 256) (j : Fin 1024) :
    View.ld (X0_11 m c t) (Rect.unit ![0, 0, 0] ![1, 256, 1024] inb_S1x256x4096_S1x256x1024_0_0_0) (ix3 0 r j) = halfGate (given m c) (seqOf t) (rowOf t r) 0 j
    ∧ View.ld (X0_11 m c t) (Rect.unit ![0, 0, 1024] ![1, 256, 1024] inb_S1x256x4096_S1x256x1024_0_0_1024) (ix3 0 r j) = halfGate (given m c) (seqOf t) (rowOf t r) 1 j
    ∧ View.ld (X0_11 m c t) (Rect.unit ![0, 0, 2048] ![1, 256, 1024] inb_S1x256x4096_S1x256x1024_0_0_2048) (ix3 0 r j) = halfGate (given m c) (seqOf t) (rowOf t r) 2 j
    ∧ View.ld (X0_11 m c t) (Rect.unit ![0, 0, 3072] ![1, 256, 1024] inb_S1x256x4096_S1x256x1024_0_0_3072) (ix3 0 r j) = halfGate (given m c) (seqOf t) (rowOf t r) 3 j := by
  unfold halfGate
  refine ⟨?_, ?_, ?_, ?_⟩
  · pointwise
    rw [blk11]
  · pointwise
    rw [blk11]
  · pointwise
    rw [blk11]
  · pointwise
    rw [blk11]

/-- The projections of the Fourier, attention and convolution branches. -/
theorem branch_blocks (r : Fin 256) (e : Fin 1024) :
    k0_pay4 (grid0.coords t) (iblk m c 4 t) (iblk m c 3 t) (iblk m c 12 t) (ix2 r e) = fourier (given m c) (seqOf t) (rowOf t r) e
    ∧ k0_pay8 (firstTile (grid0.coords t 1).val) (iblk m c 9 t) (iblk m c 8 t) (iblk m c 15 t) (ix2 r e) = attention (given m c) (seqOf t) (rowOf t r) e
    ∧ k0_pay9 (iblk m c 10 t) (iblk m c 16 t) (ix2 r e) = convolution (given m c) (seqOf t) (rowOf t r) e := by
  have hk : t.val % 33 < 33 := Nat.mod_lt _ (by decide)
  have hr := r.isLt
  refine ⟨?_, ?_, ?_⟩
  · rw [fourier_block, coord]
    unfold fourier rowOf
    refine Finset.sum_congr rfl fun d _ => ?_
    rw [row_tile _ _ _ _ hk]
    rw [blk3, blk4, blk12]
    rfl
  · rw [coord, attention_block _ hk]
    unfold attention rowOf
    refine Finset.sum_congr rfl fun d _ => ?_
    rw [row_tile _ _ _ _ hk]
    rw [blk8, blk9, blk15]
    rfl
  · rw [convolution_block]
    unfold convolution
    refine Finset.sum_congr rfl fun d _ => ?_
    rw [blk10, blk16]

/-- The projection of the retention branch, of sums that are real numbers. -/
theorem retention_blocks (x y : Shape.Idx ⟨3, ![2, 8448, 256]⟩ → ℝ) (hx : (given m c).fwd = fun i => (x i : EReal)) (hy : (given m c).bwd = fun i => (y i : EReal))
    (r : Fin 256) (e : Fin 1024) :
    k0_pay7 (k0_pay5 (iblk m c 5 t) (iblk m c 6 t)) (k0_pay6 (iblk m c 5 t) (iblk m c 6 t) (iblk m c 19 t))
      (Scalar.ofBits .f32 0x358637BD#32) (iblk m c 13 t) (iblk m c 7 t) (iblk m c 14 t) (ix2 r e) = retention (given m c) (seqOf t) (rowOf t r) e := by
  rw [retention_block _ _ _ _ _ _ r e (fun k => x (ix3 (seqOf t) (rowOf t r) k) + y (ix3 (seqOf t) (rowOf t r) k))
    (fun k => by rw [blk5, blk6, hx, hy, EReal.coe_add]) (fun k d => (blk19 m c t k d).trans (ones_at k d))]
  simp only [blk5, blk6, blk7, blk13, blk14]
  rfl

/-- The residual rows of a point's tile, at an index. -/
theorem tileRows_eq (x y : Shape.Idx ⟨3, ![2, 8448, 256]⟩ → ℝ) (hx : (given m c).fwd = fun i => (x i : EReal)) (hy : (given m c).bwd = fun i => (y i : EReal))
    (r : Fin 256) (e : Fin 1024) : tileRows m c t (ix2 r e) = residual (given m c) (seqOf t) (rowOf t r) e := by
  have hk : (grid0.coords t 1).val < 33 := (grid0.coords t 1).isLt
  have hk' : t.val % 33 < 33 := Nat.mod_lt _ (by decide)
  unfold tileRows
  rw [residual_block _ hk]
  have hg := gate_blocks m c t r
  have hb := branch_blocks m c t r
  have hr := retention_blocks m c t x y hx hy r
  rw [blk0, blk1, blk2]
  unfold GatedMerge.residual
  refine congrArg₂ (· + ·) rfl (congrArg₂ (· * ·) ?_ (Finset.sum_congr rfl fun j _ => ?_))
  · rw [coord]
    exact (mod_tile _ _ _ _ _ hk' _ _).symm
  · rw [(hg j).1, (hg j).2.1, (hg j).2.2.1, (hg j).2.2.2, (hb j).1, (hb j).2.1, (hb j).2.2, hr, blk17, mixed_double, double_half]

/-- The first result. -/
theorem rows_eq (x y : Shape.Idx ⟨3, ![2, 8448, 256]⟩ → ℝ) (hx : (given m c).fwd = fun i => (x i : EReal)) (hy : (given m c).bwd = fun i => (y i : EReal)) :
    (dats m 0 c).arrAt 20 cfg0.N = fun i => residual (given m c) (i 0) (i 1) (i 2) := by
  refine (dats m 0 c).arrAt_eq_of_covers 20 _ (by decide +kernel) fun t hf z => ?_
  blk_simp
  rw [after0_20]
  simp only [outsAt0]
  frame_out
  idx_vars z
  have hy0 : z0 = 0 := Fin.ext (by have := z0.isLt; (try dsimp only [] at *); omega)
  have he : (win0_20.blk t).view.emb (ix3 z0 z1 z2) = ix3 (seqOf t) (rowOf t z1) z2 := by
    blk_ext [seqOf, rowOf, idx20 t]
  rw [he]
  have key : k0_pay1 (tileRows m c t) (ix3 0 z1 z2) = residual (given m c) (seqOf t) (rowOf t z1) z2 :=
    (stored_block _ _ _).trans (tileRows_eq m c t x y hx hy z1 z2)
  rw [hy0]
  exact key

/-- The second result. -/
theorem feed_eq (x y : Shape.Idx ⟨3, ![2, 8448, 256]⟩ → ℝ) (hx : (given m c).fwd = fun i => (x i : EReal)) (hy : (given m c).bwd = fun i => (y i : EReal)) :
    (dats m 0 c).arrAt 21 cfg0.N = fun i => forFeed (given m c) (i 0) (i 1) (i 2) := by
  refine (dats m 0 c).arrAt_eq_of_covers 21 _ (by decide +kernel) fun t hf z => ?_
  have hk' : t.val % 33 < 33 := Nat.mod_lt _ (by decide)
  blk_simp
  rw [after0_21]
  simp only [outsAt0]
  frame_out
  idx_vars z
  have hy0 : z0 = 0 := Fin.ext (by have := z0.isLt; (try dsimp only [] at *); omega)
  have he : (win0_21.blk t).view.emb (ix3 z0 z1 z2) = ix3 (seqOf t) (rowOf t z1) z2 := by
    blk_ext [seqOf, rowOf, idx21 t]
  rw [he]
  have key : k0_pay2 (k0_pay11 (iblk m c 1 t) (k0_pay3 (iblk m c 2 t)) (firstTile (grid0.coords t 1).val)) (tileRows m c t) (iblk m c 18 t) (ix3 0 z1 z2)
      = forFeed (given m c) (seqOf t) (rowOf t z1) z2 := by
    rw [feed_block _ (grid0.coords t 1).isLt]
    simp only [blk1, blk2, blk18, coord, tileRows_eq m c t x y hx hy]
    unfold forFeed
    congr 1
    · exact funext fun d => (mod_tile _ _ _ _ _ hk' _ _).symm
    · exact funext fun d => (mod_tile _ _ _ _ _ hk' _ _).symm
  rw [hy0]
  exact key

end Cert.MergeIdeal.Out

end
-- ==== Proof.Merge.Reference.lean ====
/-
  The merge reference's two results, index by index.
-/
module

public import proofs.«01_k».proof.Proof.GatedMerge
public import proofs.«01_k».proof.Proof.Gen.MergeReferenceIdeal.Run

@[expose] public section

set_option maxRecDepth 16384

noncomputable section

namespace Cert.MergeReferenceIdeal.Out

open Cert.MergeReferenceIdeal Cert.MergeReferenceIdeal.Gen Idealize.ShloMosaic Idealize.ShloMosaic.TcCoe Idealize.SL.Sem
open Cert.GatedMerge

/-- The sigmoid of twice an array. -/
def gate (x : FVec Ideal S2x8448x1024 .f32) : FVec Ideal S2x8448x1024 .f32 :=
  Host.divf (broadcastInDim S2x8448x1024 ![] bcast_S_S2x8448x1024 (constant S_ .f32 0x3F800000#32))
    (addf (broadcastInDim S2x8448x1024 ![] bcast_S_S2x8448x1024 (constant S_ .f32 0x3F800000#32))
      (Host.exp (Host.negf (mulf (broadcastInDim S2x8448x1024 ![] bcast_S_S2x8448x1024 (constant S_ .f32 0x40000000#32)) x))))

/-- The sums by heads. -/
def heads (f g : FVec Ideal S2x8448x256 .f32) : FVec Ideal S2x8448x4x64 .f32 := shapeCast S2x8448x4x64 (addf f g) shapeCasts_S2x8448x256_S2x8448x4x64

/-- The heads divided by their root mean squares and weighted. -/
def headNorms (o : FVec Ideal S2x8448x4x64 .f32) (w : FVec Ideal S256 .f32) : FVec Ideal S2x8448x4x64 .f32 :=
  mulf (mulf o (broadcastInDim S2x8448x4x64 ![0, 1, 2, 3] bcast_S2x8448x4x1_S2x8448x4x64_0_1_2_3
      (Host.rsqrt (addf (Host.divf (broadcastInDim S2x8448x4x1 ![0, 1, 2] bcast_S2x8448x4_S2x8448x4x1_0_1_2
            (Host.reduceAdd (mulf o o) (constant S_ .f32 0x00000000#32) reducesTo_S2x8448x4x64_S2x8448x4_d3 h_S_))
          (broadcastInDim S2x8448x4x1 ![] bcast_S_S2x8448x4x1 (constant S_ .f32 0x42800000#32)))
        (broadcastInDim S2x8448x4x1 ![] bcast_S_S2x8448x4x1 (constant S_ .f32 0x358637BD#32))))))
    (broadcastInDim S2x8448x4x64 ![0, 1, 2, 3] bcast_S1x1x4x64_S2x8448x4x64_0_1_2_3
      (broadcastInDim S1x1x4x64 ![2, 3] bcast_S4x64_S1x1x4x64_2_3 (shapeCast S4x64 w shapeCasts_S256_S4x64)))

/-- The swish of the retention's gates. -/
def swished (p : FVec Ideal S2x8448x6656 .f32) : FVec Ideal S2x8448x256 .f32 :=
  mulf (extractStridedSlice S2x8448x256 ![0, 0, 6144] p slices_S2x8448x6656_S2x8448x256_0_0_6144)
    (Host.divf (broadcastInDim S2x8448x256 ![] bcast_S_S2x8448x256 (constant S_ .f32 0x3F800000#32))
      (addf (broadcastInDim S2x8448x256 ![] bcast_S_S2x8448x256 (constant S_ .f32 0x3F800000#32))
        (Host.exp (Host.negf (extractStridedSlice S2x8448x256 ![0, 0, 6144] p slices_S2x8448x6656_S2x8448x256_0_0_6144)))))

/-- A product of rows of 256 with weights. -/
def product (x : FVec Ideal S2x8448x256 .f32) (w : FVec Ideal S256x1024 .f32) : FVec Ideal S2x8448x1024 .f32 :=
  Host.dotGeneral dot_S2x8448x256_S256x1024_S2x8448x1024_2_0_01_1_n_n none x w

/-- The Fourier branch's rows. -/
def joined (x : FVec Ideal S2x256x256 .f32) (l : FVec Ideal S2x8192x256 .f32) : FVec Ideal S2x8448x256 .f32 :=
  concatenate S2x8448x256 1 [⟨S2x256x256, x⟩, ⟨S2x8192x256, l⟩] concatenates_S2x256x256_S2x8192x256_S2x8448x256_d1

/-- The attention branch's projection. -/
def attended (x : FVec Ideal S2x256x512 .f32) (l : FVec Ideal S2x8192x512 .f32) (w : FVec Ideal S512x1024 .f32) : FVec Ideal S2x8448x1024 .f32 :=
  Host.dotGeneral dot_S2x8448x512_S512x1024_S2x8448x1024_2_0_01_1_n_n none
    (concatenate S2x8448x512 1 [⟨S2x256x512, x⟩, ⟨S2x8192x512, l⟩] concatenates_S2x256x512_S2x8192x512_S2x8448x512_d1) w

variable (I : Inputs)

/-- The retention branch's rows. -/
def retained : FVec Ideal S2x8448x256 .f32 :=
  mulf (shapeCast S2x8448x256 (headNorms (heads I.fwd I.bwd) I.rg) shapeCasts_S2x8448x4x64_S2x8448x256) (swished I.proj)

/-- The branches' gated sum. -/
def gated : FVec Ideal S2x8448x1024 .f32 :=
  addf (addf (addf
    (mulf (gate (extractStridedSlice S2x8448x1024 ![0, 0, 0] (I.proj : FVec Ideal S2x8448x6656 .f32) slices_S2x8448x6656_S2x8448x1024_0_0_0)) (product (joined I.yc I.yl) I.fw))
    (mulf (gate (extractStridedSlice S2x8448x1024 ![0, 0, 1024] (I.proj : FVec Ideal S2x8448x6656 .f32) slices_S2x8448x6656_S2x8448x1024_0_0_1024)) (product (retained I) I.rw)))
    (mulf (gate (extractStridedSlice S2x8448x1024 ![0, 0, 2048] (I.proj : FVec Ideal S2x8448x6656 .f32) slices_S2x8448x6656_S2x8448x1024_0_0_2048)) (attended I.oc I.ol I.aw)))
    (mulf (gate (extractStridedSlice S2x8448x1024 ![0, 0, 3072] (I.proj : FVec Ideal S2x8448x6656 .f32) slices_S2x8448x6656_S2x8448x1024_0_0_3072)) (product I.cv I.cw))

/-- Its product with the output weights. -/
def output (x : FVec Ideal S2x8448x1024 .f32) (w : FVec Ideal S1024x1024 .f32) : FVec Ideal S2x8448x1024 .f32 :=
  Host.dotGeneral dot_S2x8448x1024_S1024x1024_S2x8448x1024_2_0_01_1_n_n none x w

/-- The residual rows with the output added. -/
def added (h x : FVec Ideal S2x8448x1024 .f32) (mc : FVec Ideal S6x1024 .f32) (ml : FVec Ideal S2x6x1024 .f32) : FVec Ideal S2x8448x1024 .f32 :=
  concatenate S2x8448x1024 1 [⟨S2x256x1024, (addf (extractStridedSlice S2x256x1024 ![0, 0, 0] h slices_S2x8448x1024_S2x256x1024_0_0_0)
      (mulf (broadcastInDim S2x256x1024 ![0, 1, 2] bcast_S1x1x1024_S2x256x1024_0_1_2 (broadcastInDim S1x1x1024 ![1, 2] bcast_S1x1024_S1x1x1024_1_2
          (extractStridedSlice S1x1024 ![2, 0] mc slices_S6x1024_S1x1024_2_0)))
        (extractStridedSlice S2x256x1024 ![0, 0, 0] x slices_S2x8448x1024_S2x256x1024_0_0_0)))⟩,
    ⟨S2x8192x1024, (addf (extractStridedSlice S2x8192x1024 ![0, 256, 0] h slices_S2x8448x1024_S2x8192x1024_0_256_0)
      (mulf (broadcastInDim S2x8192x1024 ![0, 1, 2] bcast_S2x1x1024_S2x8192x1024_0_1_2
          (extractStridedSlice S2x1x1024 ![0, 2, 0] ml slices_S2x6x1024_S2x1x1024_0_2_0))
        (extractStridedSlice S2x8192x1024 ![0, 256, 0] x slices_S2x8448x1024_S2x8192x1024_0_256_0)))⟩]
    concatenates_S2x256x1024_S2x8192x1024_S2x8448x1024_d1

/-- The first result. -/
def result : FVec Ideal S2x8448x1024 .f32 := added I.h (output (gated I) I.wo) I.mc I.ml

/-- The rows divided by their root mean squares and weighted. -/
def norms (h : FVec Ideal S2x8448x1024 .f32) (g : FVec Ideal S1024 .f32) : FVec Ideal S2x8448x1024 .f32 :=
  mulf (mulf h (broadcastInDim S2x8448x1024 ![0, 1, 2] bcast_S2x8448x1_S2x8448x1024_0_1_2
      (Host.rsqrt (addf (Host.divf (broadcastInDim S2x8448x1 ![0, 1] bcast_S2x8448_S2x8448x1_0_1
            (Host.reduceAdd (mulf h h) (constant S_ .f32 0x00000000#32) reducesTo_S2x8448x1024_S2x8448_d2 h_S_))
          (broadcastInDim S2x8448x1 ![] bcast_S_S2x8448x1 (constant S_ .f32 0x44800000#32)))
        (broadcastInDim S2x8448x1 ![] bcast_S_S2x8448x1 (constant S_ .f32 0x358637BD#32))))))
    (broadcastInDim S2x8448x1024 ![0, 1, 2] bcast_S1x1x1024_S2x8448x1024_0_1_2 (broadcastInDim S1x1x1024 ![2] bcast_S1024_S1x1x1024_2 g))

/-- The rows scaled and shifted. -/
def shifted (n : FVec Ideal S2x8448x1024 .f32) (mc : FVec Ideal S6x1024 .f32) (ml : FVec Ideal S2x6x1024 .f32) : FVec Ideal S2x8448x1024 .bf16 :=
  truncf .bf16 (concatenate S2x8448x1024 1 [⟨S2x256x1024, (addf (mulf (extractStridedSlice S2x256x1024 ![0, 0, 0] n slices_S2x8448x1024_S2x256x1024_0_0_0)
      (broadcastInDim S2x256x1024 ![0, 1, 2] bcast_S1x1x1024_S2x256x1024_0_1_2
        (addf (broadcastInDim S1x1x1024 ![] bcast_S_S1x1x1024 (constant S_ .f32 0x3F800000#32))
          (broadcastInDim S1x1x1024 ![1, 2] bcast_S1x1024_S1x1x1024_1_2 (extractStridedSlice S1x1024 ![4, 0] mc slices_S6x1024_S1x1024_4_0)))))
      (broadcastInDim S2x256x1024 ![0, 1, 2] bcast_S1x1x1024_S2x256x1024_0_1_2
        (broadcastInDim S1x1x1024 ![1, 2] bcast_S1x1024_S1x1x1024_1_2 (extractStridedSlice S1x1024 ![3, 0] mc slices_S6x1024_S1x1024_3_0))))⟩,
    ⟨S2x8192x1024, (addf (mulf (extractStridedSlice S2x8192x1024 ![0, 256, 0] n slices_S2x8448x1024_S2x8192x1024_0_256_0)
      (broadcastInDim S2x8192x1024 ![0, 1, 2] bcast_S2x1x1024_S2x8192x1024_0_1_2
        (addf (broadcastInDim S2x1x1024 ![] bcast_S_S2x1x1024 (constant S_ .f32 0x3F800000#32))
          (extractStridedSlice S2x1x1024 ![0, 4, 0] ml slices_S2x6x1024_S2x1x1024_0_4_0))))
      (broadcastInDim S2x8192x1024 ![0, 1, 2] bcast_S2x1x1024_S2x8192x1024_0_1_2
        (extractStridedSlice S2x1x1024 ![0, 3, 0] ml slices_S2x6x1024_S2x1x1024_0_3_0)))⟩]
    concatenates_S2x256x1024_S2x8192x1024_S2x8448x1024_d1) bitsLt_bf16_f32

/-- The second result. -/
def feed : FVec Ideal S2x8448x1024 .bf16 := shifted (norms (result I) I.ng) I.mc I.ml

variable (b : Fin 2) (r : Fin 8448)

/-- A row of joined arrays. -/
theorem joined_eq (x : FVec Ideal S2x256x256 .f32) (l : FVec Ideal S2x8192x256 .f32) (d : Fin 256) : joined x l (ix3 b r d) = row x l b r d := by
  unfold joined row
  pointwise

/-- A row's product with weights. -/
theorem product_eq (x : FVec Ideal S2x8448x256 .f32) (w : FVec Ideal S256x1024 .f32) (e : Fin 1024) :
    product x w (ix3 b r e) = ∑ d : Fin 256, x (ix3 b r d) * w (ix2 d e) := by
  unfold product
  pointwise

/-- A row's product with the output weights. -/
theorem output_eq (x : FVec Ideal S2x8448x1024 .f32) (w : FVec Ideal S1024x1024 .f32) (e : Fin 1024) :
    output x w (ix3 b r e) = ∑ j : Fin 1024, x (ix3 b r j) * w (ix2 j e) := by
  unfold output
  pointwise

/-- The attention branch's projection, at an index. -/
theorem attended_eq (x : FVec Ideal S2x256x512 .f32) (l : FVec Ideal S2x8192x512 .f32) (w : FVec Ideal S512x1024 .f32) (e : Fin 1024) :
    attended x l w (ix3 b r e) = ∑ d : Fin 512, row x l b r d * w (ix2 d e) := by
  unfold attended row
  pointwise

/-- A gate. -/
theorem gate_eq (x : FVec Ideal S2x8448x1024 .f32) (e : Fin 1024) : gate x (ix3 b r e) = sigmoidTwice (x (ix3 b r e)) := by
  unfold gate sigmoidTwice
  pointwise [Cert.Softmax.ofBits_two]

/-- A head's coordinate. -/
theorem heads_eq (f g : FVec Ideal S2x8448x256 .f32) (a : Fin 4) (k : Fin 64) :
    heads f g (ix4 b r a k) = f (ix3 b r ⟨a.val * 64 + k.val, by omega⟩) + g (ix3 b r ⟨a.val * 64 + k.val, by omega⟩) := by
  unfold heads
  pointwise

/-- A head divided by its root mean square and weighted. -/
theorem headNorms_eq (o : FVec Ideal S2x8448x4x64 .f32) (w : FVec Ideal S256 .f32) (a : Fin 4) (k : Fin 64) :
    headNorms o w (ix4 b r a k) = o (ix4 b r a k) * Ideal.rsqrt (Ideal.div (∑ j : Fin 64, o (ix4 b r a j) * o (ix4 b r a j)) (Ideal.ofBits .f32 0x42800000#32)
      + Ideal.ofBits .f32 0x358637BD#32) * w (ix1 ⟨a.val * 64 + k.val, by omega⟩) := by
  unfold headNorms
  pointwise

/-- The swish of a gate. -/
theorem swished_eq (p : FVec Ideal S2x8448x6656 .f32) (d : Fin 256) : swished p (ix3 b r d) = Cert.Swiglu.swish (p (ix3 b r ⟨6144 + d.val, by omega⟩)) := by
  unfold swished Cert.Swiglu.swish
  pointwise

/-- The retention branch's row. -/
theorem retained_eq (d : Fin 256) : retained I (ix3 b r d)
    = headNormed (fun k => I.fwd (ix3 b r k) + I.bwd (ix3 b r k)) (fun k => I.rg (ix1 k)) d * Cert.Swiglu.swish (I.proj (ix3 b r ⟨6144 + d.val, by omega⟩)) := by
  have hd : (⟨d.val / 64 * 64 + d.val % 64, by omega⟩ : Fin 256) = d := Fin.ext (by dsimp only; omega)
  unfold retained
  pointwise
  rw [headNorms_eq, swished_eq]
  simp only [heads_eq, hd]
  rfl

/-- The gated sum. -/
theorem gated_eq (e : Fin 1024) : gated I (ix3 b r e) = mixed I b r e := by
  unfold gated
  pointwise
  simp only [gate_eq, product_eq, attended_eq, joined_eq, retained_eq]
  pointwise
  have h0 : (⟨(0 : Fin 4).val * 1024 + e.val, by omega⟩ : Fin 6656) = ⟨e.val, by omega⟩ := Fin.ext (by simp)
  unfold mixed halfGate
  rw [h0]
  rfl

/-- The residual rows with the output added, at an index. -/
theorem added_eq (h x : FVec Ideal S2x8448x1024 .f32) (mc : FVec Ideal S6x1024 .f32) (ml : FVec Ideal S2x6x1024 .f32) (e : Fin 1024) :
    added h x mc ml (ix3 b r e) = h (ix3 b r e) + modAt mc ml 2 b r e * x (ix3 b r e) := by
  unfold added modAt
  by_cases hr : r.val < 256
  · rw [if_pos hr]
    pointwise
    rw [dif_pos hr]
  · rw [if_neg hr]
    pointwise
    have hx : (⟨256 + (r.val - 256), by omega⟩ : Fin 8448) = r := Fin.ext (by dsimp only; omega)
    rw [dif_neg hr, hx]

/-- The first result, at an index. -/
theorem result_eq (e : Fin 1024) : result I (ix3 b r e) = GatedMerge.residual I b r e := by
  unfold result GatedMerge.residual
  rw [added_eq, output_eq]
  simp only [gated_eq]

/-- The rows divided by their root mean squares and weighted, at an index. -/
theorem norms_eq (h : FVec Ideal S2x8448x1024 .f32) (g : FVec Ideal S1024 .f32) (d : Fin 1024) :
    norms h g (ix3 b r d) = Cert.NormProject.normed (fun k => h (ix3 b r k)) (fun k => g (ix1 k)) d := by
  unfold norms Cert.NormProject.normed
  pointwise

/-- The rows scaled and shifted, at an index. -/
theorem shifted_eq (n : FVec Ideal S2x8448x1024 .f32) (mc : FVec Ideal S6x1024 .f32) (ml : FVec Ideal S2x6x1024 .f32) (e : Fin 1024) :
    shifted n mc ml (ix3 b r e) = n (ix3 b r e) * (1 + modAt mc ml 4 b r e) + modAt mc ml 3 b r e := by
  unfold shifted modAt
  by_cases hr : r.val < 256
  · rw [if_pos hr, if_pos hr]
    pointwise
    rw [dif_pos hr]
  · rw [if_neg hr, if_neg hr]
    pointwise
    have hx : (⟨256 + (r.val - 256), by omega⟩ : Fin 8448) = r := Fin.ext (by dsimp only; omega)
    rw [dif_neg hr, hx]

/-- The second result, at an index. -/
theorem feed_eq (e : Fin 1024) : feed I (ix3 b r e) = forFeed I b r e := by
  unfold feed forFeed Cert.NormProject.prepared
  rw [shifted_eq, norms_eq]
  simp only [result_eq]

/-- The first result array. -/
theorem result_array : result I = fun i => GatedMerge.residual I (i 0) (i 1) (i 2) := by
  funext i
  exact (congrArg _ (eq_ix3 i)).trans (result_eq I (i 0) (i 1) (i 2))

/-- The second result array. -/
theorem feed_array : feed I = fun i => forFeed I (i 0) (i 1) (i 2) := by
  funext i
  exact (congrArg _ (eq_ix3 i)).trans (feed_eq I (i 0) (i 1) (i 2))

end Cert.MergeReferenceIdeal.Out

end
-- ==== Proof.lean ====
/-
  The certificate: the kernel and the reference run to the end and leave their arguments as they were, and of real queries and keys both
  leave the same array, the attention. So it is of the feed-forward part, of the projection before the mixers, and, of real sums of the
  retention, of the two arrays of the merge.
-/
module

public import proofs.«01_k».proof.Defs
public import proofs.«01_k».proof.Proof.Finite
public import proofs.«01_k».proof.Proof.Output
public import proofs.«01_k».proof.Proof.Reference
public import proofs.«01_k».proof.Proof.Gen.Kernel.Frame
public import proofs.«01_k».proof.Proof.Gen.FeedForward.Frame
public import proofs.«01_k».proof.Proof.FeedForward.Output
public import proofs.«01_k».proof.Proof.FeedForward.Reference
public import proofs.«01_k».proof.Proof.Gen.Projection
public import proofs.«01_k».proof.Proof.Projection.Same
public import proofs.«01_k».proof.Proof.Projection.Output
public import proofs.«01_k».proof.Proof.Projection.Reference
public import proofs.«01_k».proof.Proof.Gen.Merge.Frame
public import proofs.«01_k».proof.Proof.Gen.MergeIdeal.Value
public import proofs.«01_k».proof.Proof.Gen.MergeReferenceIdeal.Run
public import proofs.«01_k».proof.Proof.Merge.Finite
public import proofs.«01_k».proof.Proof.Merge.Output
public import proofs.«01_k».proof.Proof.Merge.Reference
public import Idealize.ShloMosaic.Adequacy
public import Idealize.ShloMosaic.Init

@[expose] public section

set_option maxRecDepth 16384

noncomputable section

namespace Cert.Proof

open Idealize.ShloMosaic Idealize.SL.Sem Cert.Attn Cert.Swiglu

/-- The kernel runs to the end, leaves its arguments and its counters. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- The reference's run leaves its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Of real queries and keys, the kernel and the reference leave the attention. -/
theorem same_result : Cert.algebraic_KernelIdeal_ReferenceIdeal_pre_finite_qk (hPre_finite_qk := Cert.Pre_finite_qk.facts) := by
  intro m g m' g' hpre hargs
  let q := fun (c : Dev Cert.KernelIdeal.nD) (i : SQ.Idx) => (Cert.KernelIdeal.Body.qIn m c i).toReal
  let k := fun (c : Dev Cert.KernelIdeal.nD) (i : SK.Idx) => (Cert.KernelIdeal.Body.kIn m c i).toReal
  have hq : ∀ c, Cert.KernelIdeal.Body.qIn m c = fun i => ((q c i : ℝ) : EReal) := fun c =>
    Cert.Pre_finite_qk.queries_real (hF := Cert.Pre_finite_qk.facts) _ _ _ (hpre c).1
  have hk : ∀ c, Cert.KernelIdeal.Body.kIn m c = fun i => ((k c i : ℝ) : EReal) := fun c =>
    Cert.Pre_finite_qk.keys_real (hF := Cert.Pre_finite_qk.facts) _ _ _ (hpre c).2
  refine ⟨fun c y => attn (q c) (k c) (Cert.KernelIdeal.Body.vIn m c) (y 0) (y 1) (y 2), ?_, ?_⟩
  · exact (θ_run Cert.KernelIdeal.defs _ _).mono
      (fun r h c => ⟨(h c).1.trans (Cert.KernelIdeal.Body.array_eq m c (q c) (k c) (hq c) (hk c)), (h c).2⟩)
      (Cert.KernelIdeal.Value.run_blocks m g)
  · refine (θ_run Cert.ReferenceIdeal.defs _ _).mono (fun r h c => ⟨(h c).1.trans ?_, (h c).2⟩) (Cert.ReferenceIdeal.Value.run (F := Ideal) m' g')
    rw [(hargs c).1, (hargs c).2.1, (hargs c).2.2]
    exact Cert.ReferenceIdeal.Attn.result_array (q c) (k c) _ _ _ (hq c) (hk c)

/-- The feed-forward kernel runs to the end, leaves its arguments and its counters. -/
theorem frame_feed : Cert.quiescent_FeedForward := fun m ρ _ => Cert.FeedForward.Gen.frame m ρ

/-- So does its idealization. -/
theorem frame_feed_ideal : Cert.quiescent_FeedForwardIdeal := fun m ρ _ => Cert.FeedForwardIdeal.Gen.frame m ρ

/-- So does the feed-forward reference. -/
theorem frame_feed_reference : Cert.quiescent_FeedForwardReferenceIdeal := fun m ρ _ =>
  (θ_run Cert.FeedForwardReferenceIdeal.defs _ _).mono (fun r h => ⟨fun c => (h c).2, sem_eq_zero_of_no_sems (by decide) r.2⟩)
    (Cert.FeedForwardReferenceIdeal.Value.run (F := Ideal) m ρ)

/-- The feed-forward kernel and its reference leave the same array. -/
theorem same_feed : Cert.algebraic_FeedForwardIdeal_FeedForwardReferenceIdeal := by
  intro m g m' g' _ hargs
  refine ⟨fun c => feedForward (Cert.FeedForwardIdeal.Out.fIn m c) (Cert.FeedForwardIdeal.Out.hIn m c) (Cert.FeedForwardIdeal.Out.sharedIn m c)
    (Cert.FeedForwardIdeal.Out.ownIn m c) (Cert.FeedForwardIdeal.Out.wgIn m c) (Cert.FeedForwardIdeal.Out.wuIn m c)
    (Cert.FeedForwardIdeal.Out.wdIn m c), ?_, ?_⟩
  · exact (θ_run Cert.FeedForwardIdeal.defs _ _).mono (fun r h c => ⟨(h c).1.trans (Cert.FeedForwardIdeal.Out.array_eq m c), (h c).2⟩)
      (Cert.FeedForwardIdeal.Value.run_blocks m g)
  · refine (θ_run Cert.FeedForwardReferenceIdeal.defs _ _).mono (fun r h c => ⟨(h c).1.trans ?_, (h c).2⟩)
      (Cert.FeedForwardReferenceIdeal.Value.run (F := Ideal) m' g')
    obtain ⟨a0, a1, a2, a3, a4, a5, a6⟩ := hargs c
    rw [a0, a1, a2, a3, a4, a5, a6]
    exact Cert.FeedForwardReferenceIdeal.Out.result_array _ _ _ _ _ _ _

/-- The projection kernel runs to the end, leaves its arguments and its counters. -/
theorem frame_proj : Cert.quiescent_Projection := fun m ρ _ => Cert.Projection.Same.unchanged (F := Bits) m ρ

/-- So does its idealization. -/
theorem frame_proj_ideal : Cert.quiescent_ProjectionIdeal := fun m ρ _ => Cert.ProjectionIdeal.Run.unchanged (F := Ideal) m ρ

/-- So does the projection's reference. -/
theorem frame_proj_reference : Cert.quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run (F := Ideal) m ρ)

/-- The projection kernel and its reference leave the same array. -/
theorem same_proj : Cert.algebraic_ProjectionIdeal_ProjectionReferenceIdeal := by
  intro m g m' g' _ hargs
  refine ⟨fun c => Cert.NormProject.projection (Cert.ProjectionIdeal.Out.hIn m c) (Cert.ProjectionIdeal.Out.sharedIn m c)
    (Cert.ProjectionIdeal.Out.ownIn m c) (Cert.ProjectionIdeal.Out.gIn m c) (Cert.ProjectionIdeal.Out.wIn m c), ?_, ?_⟩
  · exact (θ_run Cert.ProjectionIdeal.defs _ _).mono (fun r h c => ⟨(h c).1.trans (Cert.ProjectionIdeal.Out.array_eq m c), (h c).2⟩)
      (Cert.ProjectionIdeal.Run.run_result (F := Ideal) m g)
  · refine (θ_run Cert.ProjectionReferenceIdeal.defs _ _).mono (fun r h c => ⟨(h c).1.trans ?_, (h c).2⟩)
      (Cert.ProjectionReferenceIdeal.Value.run (F := Ideal) m' g')
    obtain ⟨a0, a1, a2, a3, a4⟩ := hargs c
    unfold Cert.ProjectionReferenceIdeal.Value.res_main_v43
    rw [a0, a1, a2, a3, a4]
    exact Cert.ProjectionReferenceIdeal.Out.result_array _ _ _ _ _

/-- The merge kernel runs to the end, leaves its arguments and its counters. -/
theorem frame_merge : Cert.quiescent_Merge := fun m ρ _ => Cert.Merge.Gen.frame m ρ

/-- So does its idealization. -/
theorem frame_merge_ideal : Cert.quiescent_MergeIdeal := fun m ρ _ => Cert.MergeIdeal.Gen.frame m ρ

/-- So does the merge's reference. -/
theorem frame_merge_reference : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

/-- Of real sums of the retention, the merge kernel and its reference leave the same residual rows and the same rows for the
feed-forward part. -/
theorem same_merge : Cert.algebraic_MergeIdeal_MergeReferenceIdeal_pre_finite_sums (hPre_finite_sums := Cert.Pre_finite_sums.sums_facts) := by
  intro m g m' g' hpre hargs
  have hx : ∀ c, (Cert.MergeIdeal.Out.given m c).fwd = fun i => (((Cert.MergeIdeal.Out.given m c).fwd i).toReal : EReal) := fun c =>
    Cert.Pre_finite_sums.forward_real (hF := Cert.Pre_finite_sums.sums_facts) _ _ _ _ _ _ _ _ _ _ _ _ _ _ _ _ _ _ (hpre c).1
  have hy : ∀ c, (Cert.MergeIdeal.Out.given m c).bwd = fun i => (((Cert.MergeIdeal.Out.given m c).bwd i).toReal : EReal) := fun c =>
    Cert.Pre_finite_sums.backward_real (hF := Cert.Pre_finite_sums.sums_facts) _ _ _ _ _ _ _ _ _ _ _ _ _ _ _ _ _ _ (hpre c).2
  refine ⟨fun c i => Cert.GatedMerge.residual (Cert.MergeIdeal.Out.given m c) (i 0) (i 1) (i 2),
    fun c i => Cert.GatedMerge.forFeed (Cert.MergeIdeal.Out.given m c) (i 0) (i 1) (i 2), ?_, ?_⟩
  · exact (θ_run Cert.MergeIdeal.defs _ _).mono
      (fun r h c => ⟨(h c).1.trans (Cert.MergeIdeal.Out.rows_eq m c _ _ (hx c) (hy c)),
        (h c).2.1.trans (Cert.MergeIdeal.Out.feed_eq m c _ _ (hx c) (hy c)), (h c).2.2⟩)
      (Cert.MergeIdeal.Value.run_blocks m g)
  · refine (θ_run Cert.MergeReferenceIdeal.defs _ _).mono (fun r h c => ⟨(h c).1.trans ?_, (h c).2.1.trans ?_, (h c).2.2⟩)
      (Cert.MergeReferenceIdeal.Value.run (F := Ideal) m' g')
    · obtain ⟨a0, a1, a2, a3, a4, a5, a6, a7, a8, a9, a10, a11, a12, a13, a14, a15, a16, a17⟩ := hargs c
      unfold Cert.MergeReferenceIdeal.Value.res_main_v83
      rw [a0, a1, a2, a3, a4, a5, a6, a7, a8, a9, a10, a11, a12, a13, a14, a15, a16]
      exact Cert.MergeReferenceIdeal.Out.result_array (Cert.MergeIdeal.Out.given m c)
    · obtain ⟨a0, a1, a2, a3, a4, a5, a6, a7, a8, a9, a10, a11, a12, a13, a14, a15, a16, a17⟩ := hargs c
      unfold Cert.MergeReferenceIdeal.Value.res_main_v118
      rw [a0, a1, a2, a3, a4, a5, a6, a7, a8, a9, a10, a11, a12, a13, a14, a15, a16, a17]
      exact Cert.MergeReferenceIdeal.Out.feed_array (Cert.MergeIdeal.Out.given m c)

/-- The claims of `Defs.lean`. -/
theorem claim : Cert.Claim := ⟨Cert.Kernel.Gen.facts, Cert.KernelIdeal.Gen.facts, Cert.ReferenceIdeal.Gen.facts, Cert.FeedForward.Gen.facts,
  Cert.FeedForwardIdeal.Gen.facts, Cert.FeedForwardReferenceIdeal.Gen.facts,
  Cert.Projection.Gen.facts, Cert.ProjectionIdeal.Gen.facts, Cert.ProjectionReferenceIdeal.Gen.facts,
  Cert.Merge.Gen.facts, Cert.MergeIdeal.Gen.facts, Cert.MergeReferenceIdeal.Gen.facts, Cert.Pre_finite_qk.facts, Cert.Pre_finite_sums.sums_facts,
  frame_kernel, frame_ideal, fun m g _ => frame_ideal m g trivial, frame_reference, fun m g _ => frame_reference m g trivial,
  frame_feed, frame_feed_ideal, frame_feed_reference,
  frame_proj, frame_proj_ideal, frame_proj_reference,
  frame_merge, frame_merge_ideal, fun m g _ => frame_merge_ideal m g trivial, frame_merge_reference, fun m g _ => frame_merge_reference m g trivial,
  trivial, same_result, trivial, same_feed, trivial, same_proj, trivial, same_merge⟩

end Cert.Proof

end
